-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v49)) (v4 : (c : Dev Cert.KernelIdeal.nD) → Buf (Elt Ideal) ((c.tc : Thread Cert.KernelIdeal.nD Cert.KernelIdeal.τ).loc Cert.KernelIdeal.main_v47)) (v5 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_v47) = v4 c
          ∧ r.2.mem ((c.tc : Thread Cert.KernelIdeal.nD Cert.KernelIdeal.τ).loc Cert.KernelIdeal.main_v57) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v5_5) = v1 c
          ∧ r.2.mem ((c.tc : Thread Cert.Reference2Ideal.nD Cert.Reference2Ideal.τ).loc Cert.Reference2Ideal.main_v5_6) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_logits.lean ====
abbrev S32x50x512 : Shape := ⟨3, ![32, 50, 512]⟩
abbrev S32x512 : Shape := ⟨2, ![32, 512]⟩
abbrev S32 : Shape := ⟨1, ![32]⟩
abbrev S100000x256 : Shape := ⟨2, ![100000, 256]⟩
abbrev S768x2048 : Shape := ⟨2, ![768, 2048]⟩
abbrev S512x2048 : Shape := ⟨2, ![512, 2048]⟩
abbrev S2048 : Shape := ⟨1, ![2048]⟩
abbrev S512x100000 : Shape := ⟨2, ![512, 100000]⟩
abbrev S100000 : Shape := ⟨1, ![100000]⟩
abbrev S32x10 : Shape := ⟨2, ![32, 10]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S32x50 : Shape := ⟨2, ![32, 50]⟩
abbrev S32x768 : Shape := ⟨2, ![32, 768]⟩
abbrev S32x2048 : Shape := ⟨2, ![32, 2048]⟩
abbrev S1x2048 : Shape := ⟨2, ![1, 2048]⟩
abbrev S32x100000 : Shape := ⟨2, ![32, 100000]⟩
abbrev S1x100000 : Shape := ⟨2, ![1, 100000]⟩

class Facts : Prop where
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x256_0 : S32.BroadcastsInDim S32x256 (![0] : Fin 1 → Fin S32x256.rank)
  bcast_S_S32x256 : S_.BroadcastsInDim S32x256 (![] : Fin 0 → Fin S32x256.rank)
  reducesTo_S32x50_S32_d1 : S32x50.ReducesTo [1] S32
  bcast_S32x1_S32x50_0_1 : S32x1.BroadcastsInDim S32x50 (![0, 1] : Fin 2 → Fin S32x50.rank)
  concatenates_S32x256_S32x512_S32x768_d1 : Shape.Concatenates [S32x256, S32x512] S32x768 1
  bcast_S2048_S1x2048_1 : S2048.BroadcastsInDim S1x2048 (![1] : Fin 1 → Fin S1x2048.rank)
  bcast_S1x2048_S32x2048_0_1 : S1x2048.BroadcastsInDim S32x2048 (![0, 1] : Fin 2 → Fin S32x2048.rank)
  slices_S32x2048_S32x512_0_0 : S32x2048.Slices ![0, 0] S32x512
  slices_S32x2048_S32x512_0_512 : S32x2048.Slices ![0, 512] S32x512
  slices_S32x2048_S32x512_0_1024 : S32x2048.Slices ![0, 1024] S32x512
  slices_S32x2048_S32x512_0_1536 : S32x2048.Slices ![0, 1536] S32x512
  bcast_S_S32x512 : S_.BroadcastsInDim S32x512 (![] : Fin 0 → Fin S32x512.rank)
  bcast_S100000_S1x100000_1 : S100000.BroadcastsInDim S1x100000 (![1] : Fin 1 → Fin S1x100000.rank)
  bcast_S1x100000_S32x100000_0_1 : S1x100000.BroadcastsInDim S32x100000 (![0, 1] : Fin 2 → Fin S32x100000.rank)
  bcast_S_S32x100000 : S_.BroadcastsInDim S32x100000 (![] : Fin 0 → Fin S32x100000.rank)
  reducesTo_S32x100000_S_d0_1 : S32x100000.ReducesTo [0, 1] S_
  gather_S100000x256_S32x1_S32x256_1_0_n_n_0_1_1256_wf : GatherDims.WF S100000x256 S32x1 S32x256 [1] [0] [] [0] [] 1 ![1, 256]
  dot_S32x50x512_S32x512_S32x50_2_1_1_n_0_0_wf : DotDims.WF S32x50x512 S32x512 S32x50 [2] [1] [1] [] [0] [0]
  dot_S32x50_S32x50x512_S32x512_1_1_n_2_0_0_wf : DotDims.WF S32x50 S32x50x512 S32x512 [1] [1] [] [2] [0] [0]
  dot_S32x768_S768x2048_S32x2048_1_0_0_1_n_n_wf : DotDims.WF S32x768 S768x2048 S32x2048 [1] [0] [0] [1] [] []
  dot_S32x512_S512x2048_S32x2048_1_0_0_1_n_n_wf : DotDims.WF S32x512 S512x2048 S32x2048 [1] [0] [0] [1] [] []
  dot_S32x512_S512x100000_S32x100000_1_0_0_1_n_n_wf : DotDims.WF S32x512 S512x100000 S32x100000 [1] [0] [0] [1] [] []

variable [Facts]

def gather_S100000x256_S32x1_S32x256_1_0_n_n_0_1_1256 : GatherDims S100000x256 S32x1 S32x256 where
  offsetDims := [1]
  collapsedSliceDims := [0]
  operandBatchingDims := []
  startIndicesBatchingDims := []
  startIndexMap := [0]
  indexVectorDim := 1
  sliceSizes := ![1, 256]
  wf := gather_S100000x256_S32x1_S32x256_1_0_n_n_0_1_1256_wf
def dot_S32x50x512_S32x512_S32x50_2_1_1_n_0_0 : DotDims S32x50x512 S32x512 S32x50 where
  lhsContracting := [2]
  rhsContracting := [1]
  lhsNonContracting := [1]
  rhsNonContracting := []
  lhsBatch := [0]
  rhsBatch := [0]
  wf := dot_S32x50x512_S32x512_S32x50_2_1_1_n_0_0_wf
def dot_S32x50_S32x50x512_S32x512_1_1_n_2_0_0 : DotDims S32x50 S32x50x512 S32x512 where
  lhsContracting := [1]
  rhsContracting := [1]
  lhsNonContracting := []
  rhsNonContracting := [2]
  lhsBatch := [0]
  rhsBatch := [0]
  wf := dot_S32x50_S32x50x512_S32x512_1_1_n_2_0_0_wf
def dot_S32x768_S768x2048_S32x2048_1_0_0_1_n_n : DotDims S32x768 S768x2048 S32x2048 where
  lhsContracting := [1]
  rhsContracting := [0]
  lhsNonContracting := [0]
  rhsNonContracting := [1]
  lhsBatch := []
  rhsBatch := []
  wf := dot_S32x768_S768x2048_S32x2048_1_0_0_1_n_n_wf
def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf
def dot_S32x512_S512x100000_S32x100000_1_0_0_1_n_n : DotDims S32x512 S512x100000 S32x100000 where
  lhsContracting := [1]
  rhsContracting := [0]
  lhsNonContracting := [0]
  rhsNonContracting := [1]
  lhsBatch := []
  rhsBatch := []
  wf := dot_S32x512_S512x100000_S32x100000_1_0_0_1_n_n_wf
def fn_where {F : FTy → Type} [FloatOps F] (arg0 : IVec S32 1) (arg1 : IVec S32 32) (arg2 : IVec S32 32) : IVec S32 32 :=
  let v0 : IVec S32 32 := select arg0 arg1 arg2
  v0

def fn_take {F : FTy → Type} [FloatOps F] (arg0 : FVec F S100000x256 .f32) (arg1 : IVec S32 32) : FVec F S32x256 .f32 :=
  let c : IVec S_ 32 := constantI S_ 32 0#32
  let v0 : IVec S32 32 := broadcastInDim S32 ![] bcast_S_S32 c
  let v1 : IVec S32 1 := cmpi .slt arg1 v0
  let c_0 : IVec S_ 32 := constantI S_ 32 100000#32
  let v2 : IVec S32 32 := broadcastInDim S32 ![] bcast_S_S32 c_0
  let v3 : IVec S32 32 := addi arg1 v2
  let v4 : IVec S32 32 := fn_where (F := F) v1 v3 arg1
  let v5 : IVec S32x1 32 := broadcastInDim S32x1 ![0] bcast_S32_S32x1_0 v4
  let c_1 : IVec S1 32 := constantI S1 32 99999#32
  let c_2 : IVec S_ 32 := constantI S_ 32 0#32
  let v6 : IVec S32x1 32 := broadcastInDim S32x1 ![] bcast_S_S32x1 c_2
  let v7 : IVec S32x1 1 := cmpi .sge v5 v6
  let v8 : IVec S1x1 32 := broadcastInDim S1x1 ![1] bcast_S1_S1x1_1 c_1
  let v9 : IVec S32x1 32 := broadcastInDim S32x1 ![0, 1] bcast_S1x1_S32x1_0_1 v8
  let v10 : IVec S32x1 1 := cmpi .sle v5 v9
  let v11 : IVec S32x1 1 := andi v7 v10
  let c_3 : IVec S_ 1 := constantI S_ 1 1#1
  let v12 : IVec S32 1 := (fun x v => Host.reduce IntOp.andi x v reducesTo_S32x1_S32_d1 h_S_) v11 c_3
  let v13 : FVec F S32x256 .f32 := (fun x i => Host.gather gather_S100000x256_S32x1_S32x256_1_0_n_n_0_1_1256 x i) arg0 v5
  let v14 : IVec S32x256 1 := broadcastInDim S32x256 ![0] bcast_S32_S32x256_0 v12
  let cst : FVec F S_ .f32 := constant S_ .f32 0x7FC00000#32
  let v15 : FVec F S32x256 .f32 := broadcastInDim S32x256 ![] bcast_S_S32x256 cst
  let v16 : FVec F S32x256 .f32 := select v14 v13 v15
  v16

def fn_part2 {F : FTy → Type} [FloatOps F] (main_arg2 : FVec F S32x512 .f32) (main_arg8 : FVec F S512x100000 .f32) (main_arg9 : FVec F S100000 .f32) (main_v23 : FVec F S32x512 .f32) (main_v30 : FVec F S32x512 .f32) (main_v36 : FVec F S32x512 .f32) (main_v38 : FVec F S32x512 .f32) (main_v39 : FVec F S32x512 .f32) : IVec S_ 1 :=
  let main_v40 : FVec F S32x512 .f32 := addf main_v39 main_v38
  let main_cst_7 : FVec F S_ .f32 := constant S_ .f32 0x3F800000#32
  let main_v41 : FVec F S32x512 .f32 := broadcastInDim S32x512 ![] bcast_S_S32x512 main_cst_7
  let main_v42 : FVec F S32x512 .f32 := Host.divf main_v41 main_v40
  let main_v43 : FVec F S32x512 .f32 := Host.tanh main_v23
  let main_v44 : FVec F S32x512 .f32 := mulf main_v36 main_arg2
  let main_v45 : FVec F S32x512 .f32 := mulf main_v30 main_v43
  let main_v46 : FVec F S32x512 .f32 := addf main_v44 main_v45
  let main_v47 : FVec F S32x512 .f32 := Host.tanh main_v46
  let main_v48 : FVec F S32x512 .f32 := mulf main_v42 main_v47
  let main_v49 : FVec F S32x100000 .f32 := (fun l r => Host.dotGeneral dot_S32x512_S512x100000_S32x100000_1_0_0_1_n_n none l r) main_v48 main_arg8
  let main_v50 : FVec F S1x100000 .f32 := broadcastInDim S1x100000 ![1] bcast_S100000_S1x100000_1 main_arg9
  let main_v51 : FVec F S32x100000 .f32 := broadcastInDim S32x100000 ![0, 1] bcast_S1x100000_S32x100000_0_1 main_v50
  let main_v52 : FVec F S32x100000 .f32 := addf main_v49 main_v51
  let main_cst_8 : FVec F S_ .f32 := constant S_ .f32 0xFF800000#32
  let main_v53 : FVec F S32x100000 .f32 := broadcastInDim S32x100000 ![] bcast_S_S32x100000 main_cst_8
  let main_v54 : IVec S32x100000 1 := cmpf .ogt main_v52 main_v53
  let main_c : IVec S_ 1 := constantI S_ 1 1#1
  let main_v55 : IVec S_ 1 := (fun x v => Host.reduce IntOp.andi x v reducesTo_S32x100000_S_d0_1 h_S_) main_v54 main_c
  main_v55

def fn_part1 {F : FTy → Type} [FloatOps F] (main_arg2 : FVec F S32x512 .f32) (main_arg8 : FVec F S512x100000 .f32) (main_arg9 : FVec F S100000 .f32) (main_v20 : FVec F S32x2048 .f32) : IVec S_ 1 :=
  let main_v21 : FVec F S32x512 .f32 := (extractStridedSlice S32x512 ![0, 0] · slices_S32x2048_S32x512_0_0) main_v20
  let main_v22 : FVec F S32x512 .f32 := (extractStridedSlice S32x512 ![0, 512] · slices_S32x2048_S32x512_0_512) main_v20
  let main_v23 : FVec F S32x512 .f32 := (extractStridedSlice S32x512 ![0, 1024] · slices_S32x2048_S32x512_0_1024) main_v20
  let main_v24 : FVec F S32x512 .f32 := (extractStridedSlice S32x512 ![0, 1536] · slices_S32x2048_S32x512_0_1536) main_v20
  let main_v25 : FVec F S32x512 .f32 := Host.negf main_v21
  let main_v26 : FVec F S32x512 .f32 := Host.exp main_v25
  let main_cst_2 : FVec F S_ .f32 := constant S_ .f32 0x3F800000#32
  let main_v27 : FVec F S32x512 .f32 := broadcastInDim S32x512 ![] bcast_S_S32x512 main_cst_2
  let main_v28 : FVec F S32x512 .f32 := addf main_v27 main_v26
  let main_cst_3 : FVec F S_ .f32 := constant S_ .f32 0x3F800000#32
  let main_v29 : FVec F S32x512 .f32 := broadcastInDim S32x512 ![] bcast_S_S32x512 main_cst_3
  let main_v30 : FVec F S32x512 .f32 := Host.divf main_v29 main_v28
  let main_v31 : FVec F S32x512 .f32 := Host.negf main_v22
  let main_v32 : FVec F S32x512 .f32 := Host.exp main_v31
  let main_cst_4 : FVec F S_ .f32 := constant S_ .f32 0x3F800000#32
  let main_v33 : FVec F S32x512 .f32 := broadcastInDim S32x512 ![] bcast_S_S32x512 main_cst_4
  let main_v34 : FVec F S32x512 .f32 := addf main_v33 main_v32
  let main_cst_5 : FVec F S_ .f32 := constant S_ .f32 0x3F800000#32
  let main_v35 : FVec F S32x512 .f32 := broadcastInDim S32x512 ![] bcast_S_S32x512 main_cst_5
  let main_v36 : FVec F S32x512 .f32 := Host.divf main_v35 main_v34
  let main_v37 : FVec F S32x512 .f32 := Host.negf main_v24
  let main_v38 : FVec F S32x512 .f32 := Host.exp main_v37
  let main_cst_6 : FVec F S_ .f32 := constant S_ .f32 0x3F800000#32
  let main_v39 : FVec F S32x512 .f32 := broadcastInDim S32x512 ![] bcast_S_S32x512 main_cst_6
  fn_part2 (F := F) main_arg2 main_arg8 main_arg9 main_v23 main_v30 main_v36 main_v38 main_v39

def fn {F : FTy → Type} [FloatOps F] (main_arg0 : FVec F S32x50x512 .f32) (main_arg1 : FVec F S32x512 .f32) (main_arg2 : FVec F S32x512 .f32) (main_arg3 : IVec S32 32) (main_arg4 : FVec F S100000x256 .f32) (main_arg5 : FVec F S768x2048 .f32) (main_arg6 : FVec F S512x2048 .f32) (main_arg7 : FVec F S2048 .f32) (main_arg8 : FVec F S512x100000 .f32) (main_arg9 : FVec F S100000 .f32) (main_arg10 : FVec F S32x10 .f32) : IVec S_ 1 :=
  let main_v0 : FVec F S32x256 .f32 := fn_take (F := F) main_arg4 main_arg3
  let main_v1 : FVec F S32x50 .f32 := (fun l r => Host.dotGeneral dot_S32x50x512_S32x512_S32x50_2_1_1_n_0_0 none l r) main_arg0 main_arg1
  let main_cst : FVec F S_ .f32 := constant S_ .f32 0xFF800000#32
  let main_v2 : FVec F S32 .f32 := (fun x v => Host.reduce FloatOps.maximumf x v reducesTo_S32x50_S32_d1 h_S_) main_v1 main_cst
  let main_cst_0 : FVec F S_ .f32 := constant S_ .f32 0xFF800000#32
  let main_v3 : FVec F S32 .f32 := broadcastInDim S32 ![] bcast_S_S32 main_cst_0
  let main_v4 : FVec F S32 .f32 := maximumf main_v3 main_v2
  let main_v5 : FVec F S32x1 .f32 := broadcastInDim S32x1 ![0] bcast_S32_S32x1_0 main_v4
  let main_v6 : FVec F S32x50 .f32 := broadcastInDim S32x50 ![0, 1] bcast_S32x1_S32x50_0_1 main_v5
  let main_v7 : FVec F S32x50 .f32 := subf main_v1 main_v6
  let main_v8 : FVec F S32x50 .f32 := Host.exp main_v7
  let main_cst_1 : FVec F S_ .f32 := constant S_ .f32 0x00000000#32
  let main_v9 : FVec F S32 .f32 := (fun x v => Host.reduceAdd x v reducesTo_S32x50_S32_d1 h_S_) main_v8 main_cst_1
  let main_v10 : FVec F S32x1 .f32 := broadcastInDim S32x1 ![0] bcast_S32_S32x1_0 main_v9
  let main_v11 : FVec F S32x50 .f32 := broadcastInDim S32x50 ![0, 1] bcast_S32x1_S32x50_0_1 main_v10
  let main_v12 : FVec F S32x50 .f32 := Host.divf main_v8 main_v11
  let main_v13 : FVec F S32x512 .f32 := (fun l r => Host.dotGeneral dot_S32x50_S32x50x512_S32x512_1_1_n_2_0_0 none l r) main_v12 main_arg0
  let main_v14 : FVec F S32x768 .f32 := (fun a b => concatenate S32x768 1 [⟨S32x256, a⟩, ⟨S32x512, b⟩] concatenates_S32x256_S32x512_S32x768_d1) main_v0 main_v13
  let main_v15 : FVec F S32x2048 .f32 := (fun l r => Host.dotGeneral dot_S32x768_S768x2048_S32x2048_1_0_0_1_n_n none l r) main_v14 main_arg5
  let main_v16 : FVec F S32x2048 .f32 := (fun l r => Host.dotGeneral dot_S32x512_S512x2048_S32x2048_1_0_0_1_n_n none l r) main_arg1 main_arg6
  let main_v17 : FVec F S32x2048 .f32 := addf main_v15 main_v16
  let main_v18 : FVec F S1x2048 .f32 := broadcastInDim S1x2048 ![1] bcast_S2048_S1x2048_1 main_arg7
  let main_v19 : FVec F S32x2048 .f32 := broadcastInDim S32x2048 ![0, 1] bcast_S1x2048_S32x2048_0_1 main_v18
  let main_v20 : FVec F S32x2048 .f32 := addf main_v17 main_v19
  fn_part1 (F := F) main_arg2 main_arg8 main_arg9 main_v20
-- ==== Kernel.lean ====
abbrev S32x50x512 : Shape := ⟨3, ![32, 50, 512]⟩
abbrev S32x512 : Shape := ⟨2, ![32, 512]⟩
abbrev S32 : Shape := ⟨1, ![32]⟩
abbrev S100000x256 : Shape := ⟨2, ![100000, 256]⟩
abbrev S768x2048 : Shape := ⟨2, ![768, 2048]⟩
abbrev S512x2048 : Shape := ⟨2, ![512, 2048]⟩
abbrev S2048 : Shape := ⟨1, ![2048]⟩
abbrev S512x100000 : Shape := ⟨2, ![512, 100000]⟩
abbrev S100000 : Shape := ⟨1, ![100000]⟩
abbrev S32x10 : Shape := ⟨2, ![32, 10]⟩
abbrev S1x100000 : Shape := ⟨2, ![1, 100000]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S32x50 : Shape := ⟨2, ![32, 50]⟩
abbrev S32x768 : Shape := ⟨2, ![32, 768]⟩
abbrev S32x2048 : Shape := ⟨2, ![32, 2048]⟩
abbrev S1x2048 : Shape := ⟨2, ![1, 2048]⟩
abbrev S32x100000 : Shape := ⟨2, ![32, 100000]⟩
abbrev S32x16 : Shape := ⟨2, ![32, 16]⟩
abbrev S512x4096 : Shape := ⟨2, ![512, 4096]⟩
abbrev S1x4096 : Shape := ⟨2, ![1, 4096]⟩
abbrev S32x4096 : Shape := ⟨2, ![32, 4096]⟩
abbrev S32x1x1 : Shape := ⟨3, ![32, 1, 1]⟩
abbrev S1x1x1 : Shape := ⟨3, ![1, 1, 1]⟩

abbrev nBuf : Space → Nat
  | .hbm => 127
  | .vmem => 11
  | .smem => 0
  | _ => 0

abbrev bufTy : (tb : Table) → Fin (tcTables nBuf tb) → BufTy
  | .hbm, ⟨0, _⟩ => ⟨S32x50x512, .f32⟩
  | .hbm, ⟨1, _⟩ => ⟨S32x512, .f32⟩
  | .hbm, ⟨2, _⟩ => ⟨S32x512, .f32⟩
  | .hbm, ⟨3, _⟩ => ⟨S32, .i32⟩
  | .hbm, ⟨4, _⟩ => ⟨S100000x256, .f32⟩
  | .hbm, ⟨5, _⟩ => ⟨S768x2048, .f32⟩
  | .hbm, ⟨6, _⟩ => ⟨S512x2048, .f32⟩
  | .hbm, ⟨7, _⟩ => ⟨S2048, .f32⟩
  | .hbm, ⟨8, _⟩ => ⟨S512x100000, .f32⟩
  | .hbm, ⟨9, _⟩ => ⟨S100000, .f32⟩
  | .hbm, ⟨10, _⟩ => ⟨S32x10, .f32⟩
  | .hbm, ⟨11, _⟩ => ⟨S1x100000, .f32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S32x1, .i32⟩
  | .hbm, ⟨20, _⟩ => ⟨S1, .i32⟩
  | .hbm, ⟨21, _⟩ => ⟨S_, .i32⟩
  | .hbm, ⟨22, _⟩ => ⟨S32x1, .i32⟩
  | .hbm, ⟨23, _⟩ => ⟨S32x1, .i1⟩
  | .hbm, ⟨24, _⟩ => ⟨S1x1, .i32⟩
  | .hbm, ⟨25, _⟩ => ⟨S32x1, .i32⟩
  | .hbm, ⟨26, _⟩ => ⟨S32x1, .i1⟩
  | .hbm, ⟨27, _⟩ => ⟨S32x1, .i1⟩
  | .hbm, ⟨28, _⟩ => ⟨S_, .i1⟩
  | .hbm, ⟨29, _⟩ => ⟨S32, .i1⟩
  | .hbm, ⟨30, _⟩ => ⟨S32x256, .f32⟩
  | .hbm, ⟨31, _⟩ => ⟨S32x256, .i1⟩
  | .hbm, ⟨32, _⟩ => ⟨S_, .f32⟩
  | .hbm, ⟨33, _⟩ => ⟨S32x256, .f32⟩
  | .hbm, ⟨34, _⟩ => ⟨S32x256, .f32⟩
  | .hbm, ⟨35, _⟩ => ⟨S32x50, .f32⟩
  | .hbm, ⟨36, _⟩ => ⟨S_, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32x1, .f32⟩
  | .hbm, ⟨42, _⟩ => ⟨S32x50, .f32⟩
  | .hbm, ⟨43, _⟩ => ⟨S32x50, .f32⟩
  | .hbm, ⟨44, _⟩ => ⟨S32x50, .f32⟩
  | .hbm, ⟨45, _⟩ => ⟨S_, .f32⟩
  | .hbm, ⟨46, _⟩ => ⟨S32, .f32⟩
  | .hbm, ⟨47, _⟩ => ⟨S32x1, .f32⟩
  | .hbm, ⟨48, _⟩ => ⟨S32x50, .f32⟩
  | .hbm, ⟨49, _⟩ => ⟨S32x50, .f32⟩
  | .hbm, ⟨50, _⟩ => ⟨S32x512, .f32⟩
  | .hbm, ⟨51, _⟩ => ⟨S32x768, .f32⟩
  | .hbm, ⟨52, _⟩ => ⟨S32x2048, .f32⟩
  | .hbm, ⟨53, _⟩ => ⟨S32x2048, .f32⟩
  | .hbm, ⟨54, _⟩ => ⟨S32x2048, .f32⟩
  | .hbm, ⟨55, _⟩ => ⟨S1x2048, .f32⟩
  | .hbm, ⟨56, _⟩ => ⟨S32x2048, .f32⟩
  | .hbm, ⟨57, _⟩ => ⟨S32x2048, .f32⟩
  | .hbm, ⟨58, _⟩ => ⟨S32x512, .f32⟩
  | .hbm, ⟨59, _⟩ => ⟨S32x512, .f32⟩
  | .hbm, ⟨60, _⟩ => ⟨S32x512, .f32⟩
  | .hbm, ⟨61, _⟩ => ⟨S_, .f32⟩
  | .hbm, ⟨62, _⟩ => ⟨S32x512, .f32⟩
  | .hbm, ⟨63, _⟩ => ⟨S32x512, .f32⟩
  | .hbm, ⟨64, _⟩ => ⟨S_, .f32⟩
  | .hbm, ⟨65, _⟩ => ⟨S32x512, .f32⟩
  | .hbm, ⟨66, _⟩ => ⟨S32x512, .f32⟩
  | .hbm, ⟨67, _⟩ => ⟨S32x512, .f32⟩
  | .hbm, ⟨68, _⟩ => ⟨S32x512, .f32⟩
  | .hbm, ⟨69, _⟩ => ⟨S32x512, .f32⟩
  | .hbm, ⟨70, _⟩ => ⟨S_, .f32⟩
  | .hbm, ⟨71, _⟩ => ⟨S32x512, .f32⟩
  | .hbm, ⟨72, _⟩ => ⟨S32x512, .f32⟩
  | .hbm, ⟨73, _⟩ => ⟨S_, .f32⟩
  | .hbm, ⟨74, _⟩ => ⟨S32x512, .f32⟩
  | .hbm, ⟨75, _⟩ => ⟨S32x512, .f32⟩
  | .hbm, ⟨76, _⟩ => ⟨S32x512, .f32⟩
  | .hbm, ⟨77, _⟩ => ⟨S32x512, .f32⟩
  | .hbm, ⟨78, _⟩ => ⟨S32x512, .f32⟩
  | .hbm, ⟨79, _⟩ => ⟨S_, .f32⟩
  | .hbm, ⟨80, _⟩ => ⟨S32x512, .f32⟩
  | .hbm, ⟨81, _⟩ => ⟨S32x512, .f32⟩
  | .hbm, ⟨82, _⟩ => ⟨S_, .f32⟩
  | .hbm, ⟨83, _⟩ => ⟨S32x512, .f32⟩
  | .hbm, ⟨84, _⟩ => ⟨S32x512, .f32⟩
  | .hbm, ⟨85, _⟩ => ⟨S32x512, .f32⟩
  | .hbm, ⟨86, _⟩ => ⟨S32x512, .f32⟩
  | .hbm, ⟨87, _⟩ => ⟨S32x512, .f32⟩
  | .hbm, ⟨88, _⟩ => ⟨S32x512, .f32⟩
  | .hbm, ⟨89, _⟩ => ⟨S32x512, .f32⟩
  | .hbm, ⟨90, _⟩ => ⟨S32x512, .f32⟩
  | .hbm, ⟨91, _⟩ => ⟨S32x512, .f32⟩
  | .hbm, ⟨92, _⟩ => ⟨S32x100000, .f32⟩
  | .hbm, ⟨93, _⟩ => ⟨S32x16, .f32⟩
  | .hbm, ⟨94, _⟩ => ⟨S32x16, .i32⟩
  | .hbm, ⟨95, _⟩ => ⟨S32x10, .f32⟩
  | .hbm, ⟨96, _⟩ => ⟨S32x10, .f32⟩
  | .hbm, ⟨97, _⟩ => ⟨S32x10, .i32⟩
  | .hbm, ⟨98, _⟩ => ⟨S_, .f32⟩
  | .hbm, ⟨99, _⟩ => ⟨S_, .i32⟩
  | .hbm, ⟨100, _⟩ => ⟨S32, .f32⟩
  | .hbm, ⟨101, _⟩ => ⟨S32, .i32⟩
  | .hbm, ⟨102, _⟩ => ⟨S32x10, .i32⟩
  | .hbm, ⟨103, _⟩ => ⟨S32x1, .i32⟩
  | .hbm, ⟨104, _⟩ => ⟨S_, .i32⟩
  | .hbm, ⟨105, _⟩ => ⟨S32x1, .i32⟩
  | .hbm, ⟨106, _⟩ => ⟨S32x1, .i1⟩
  | .hbm, ⟨107, _⟩ => ⟨S_, .i32⟩
  | .hbm, ⟨108, _⟩ => ⟨S32x1, .i32⟩
  | .hbm, ⟨109, _⟩ => ⟨S32x1, .i32⟩
  | .hbm, ⟨110, _⟩ => ⟨S32x1, .i32⟩
  | .hbm, ⟨111, _⟩ => ⟨S32x1x1, .i32⟩
  | .hbm, ⟨112, _⟩ => ⟨S1, .i32⟩
  | .hbm, ⟨113, _⟩ => ⟨S_, .i32⟩
  | .hbm, ⟨114, _⟩ => ⟨S32x1x1, .i32⟩
  | .hbm, ⟨115, _⟩ => ⟨S32x1x1, .i1⟩
  | .hbm, ⟨116, _⟩ => ⟨S1x1x1, .i32⟩
  | .hbm, ⟨117, _⟩ => ⟨S32x1x1, .i32⟩
  | .hbm, ⟨118, _⟩ => ⟨S32x1x1, .i1⟩
  | .hbm, ⟨119, _⟩ => ⟨S32x1x1, .i1⟩
  | .hbm, ⟨120, _⟩ => ⟨S_, .i1⟩
  | .hbm, ⟨121, _⟩ => ⟨S32x1, .i1⟩
  | .hbm, ⟨122, _⟩ => ⟨S32x1, .i32⟩
  | .hbm, ⟨123, _⟩ => ⟨S_, .i32⟩
  | .hbm, ⟨124, _⟩ => ⟨S32x1, .i32⟩
  | .hbm, ⟨125, _⟩ => ⟨S32x1, .i32⟩
  | .hbm, ⟨126, _⟩ => ⟨S32, .i32⟩
  | .local _ .vmem, ⟨0, _⟩ => ⟨S32x512, .f32⟩
  | .local _ .vmem, ⟨1, _⟩ => ⟨S512x4096, .f32⟩
  | .local _ .vmem, ⟨2, _⟩ => ⟨S512x4096, .f32⟩
  | .local _ .vmem, ⟨3, _⟩ => ⟨S1x4096, .f32⟩
  | .local _ .vmem, ⟨4, _⟩ => ⟨S1x4096, .f32⟩
  | .local _ .vmem, ⟨5, _⟩ => ⟨S32x4096, .f32⟩
  | .local _ .vmem, ⟨6, _⟩ => ⟨S32x4096, .f32⟩
  | .local _ .vmem, ⟨7, _⟩ => ⟨S32x16, .f32⟩
  | .local _ .vmem, ⟨8, _⟩ => ⟨S32x16, .i32⟩
  | .local _ .vmem, ⟨9, _⟩ => ⟨S32x16, .f32⟩
  | .local _ .vmem, ⟨10, _⟩ => ⟨S32x16, .i32⟩
  | _, _ => ⟨S32x50x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v1 : Ref sig .tc := ⟨.hbm, 34, rfl⟩
abbrev main_v2 : Ref sig .tc := ⟨.hbm, 35, rfl⟩
abbrev main_cst : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_cst_5 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_v39 : Ref sig .tc := ⟨.hbm, 80, rfl⟩
abbrev main_v40 : Ref sig .tc := ⟨.hbm, 81, rfl⟩
abbrev main_cst_7 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50_0 : Ref sig .tc := ⟨.hbm, 92, rfl⟩
abbrev main_v50_1 : Ref sig .tc := ⟨.hbm, 93, rfl⟩
abbrev main_v50_2 : Ref sig .tc := ⟨.hbm, 94, rfl⟩
abbrev main_v51 : Ref sig .tc := ⟨.hbm, 95, rfl⟩
abbrev main_v52 : Ref sig .tc := ⟨.hbm, 96, rfl⟩
abbrev main_call1_v0 : Ref sig .tc := ⟨.hbm, 97, rfl⟩
abbrev main_call1_cst : Ref sig .tc := ⟨.hbm, 98, rfl⟩
abbrev main_call1_c : Ref sig .tc := ⟨.hbm, 99, rfl⟩
abbrev main_call1_v1_0 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_c_4 : Ref sig .tc := ⟨.hbm, 123, rfl⟩
abbrev main_call2_v14 : Ref sig .tc := ⟨.hbm, 124, rfl⟩
abbrev main_v56 : Ref sig .tc := ⟨.hbm, 125, rfl⟩
abbrev main_v57 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v401 : BitVec 1 := Scalar.cmpi .eq arg0 c24_i32
  let v402 : BitVec 32 := Scalar.extui v401
  let c0_i32_107 : BitVec 32 := 0#32
  let v403 : BitVec 1 := Scalar.cmpi .ne v402 c0_i32_107
  v403

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x50x512 : Shape := ⟨3, ![32, 50, 512]⟩
abbrev S32x512 : Shape := ⟨2, ![32, 512]⟩
abbrev S32 : Shape := ⟨1, ![32]⟩
abbrev S100000x256 : Shape := ⟨2, ![100000, 256]⟩
abbrev S768x2048 : Shape := ⟨2, ![768, 2048]⟩
abbrev S512x2048 : Shape := ⟨2, ![512, 2048]⟩
abbrev S2048 : Shape := ⟨1, ![2048]⟩
abbrev S512x100000 : Shape := ⟨2, ![512, 100000]⟩
abbrev S100000 : Shape := ⟨1, ![100000]⟩
abbrev S32x10 : Shape := ⟨2, ![32, 10]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S32x50 : Shape := ⟨2, ![32, 50]⟩
abbrev S32x768 : Shape := ⟨2, ![32, 768]⟩
abbrev S32x2048 : Shape := ⟨2, ![32, 2048]⟩
abbrev S1x2048 : Shape := ⟨2, ![1, 2048]⟩
abbrev S32x100000 : Shape := ⟨2, ![32, 100000]⟩
abbrev S1x100000 : Shape := ⟨2, ![1, 100000]⟩
abbrev S32x1x1 : Shape := ⟨3, ![32, 1, 1]⟩
abbrev S1x1x1 : Shape := ⟨3, ![1, 1, 1]⟩
abbrev S32x16 : Shape := ⟨2, ![32, 16]⟩

abbrev nBuf : Space → Nat
  | .hbm => 133
  | .vmem => 0
  | .smem => 0
  | _ => 0

abbrev hbmTy0_0 (i : Nat) : BufTy := match i % 128 with
  | 0 => ⟨S32x50x512, .f32⟩
  | 1 => ⟨S32x512, .f32⟩
  | 2 => ⟨S32x512, .f32⟩
  | 3 => ⟨S32, .i32⟩
  | 4 => ⟨S100000x256, .f32⟩
  | 5 => ⟨S768x2048, .f32⟩
  | 6 => ⟨S512x2048, .f32⟩
  | 7 => ⟨S2048, .f32⟩
  | 8 => ⟨S512x100000, .f32⟩
  | 9 => ⟨S100000, .f32⟩
  | 10 => ⟨S32x10, .f32⟩
  | 11 => ⟨S_, .i32⟩
  | 12 => ⟨S32, .i32⟩
  | 13 => ⟨S32, .i1⟩
  | 14 => ⟨S_, .i32⟩
  | 15 => ⟨S32, .i32⟩
  | 16 => ⟨S32, .i32⟩
  | 17 => ⟨S32, .i32⟩
  | 18 => ⟨S32x1, .i32⟩
  | 19 => ⟨S1, .i32⟩
  | 20 => ⟨S_, .i32⟩
  | 21 => ⟨S32x1, .i32⟩
  | 22 => ⟨S32x1, .i1⟩
  | 23 => ⟨S1x1, .i32⟩
  | 24 => ⟨S32x1, .i32⟩
  | 25 => ⟨S32x1, .i1⟩
  | 26 => ⟨S32x1, .i1⟩
  | 27 => ⟨S_, .i1⟩
  | 28 => ⟨S32, .i1⟩
  | 29 => ⟨S32x256, .f32⟩
  | 30 => ⟨S32x256, .i1⟩
  | 31 => ⟨S_, .f32⟩
  | 32 => ⟨S32x256, .f32⟩
  | 33 => ⟨S32x256, .f32⟩
  | 34 => ⟨S32x50, .f32⟩
  | 35 => ⟨S_, .f32⟩
  | 36 => ⟨S32, .f32⟩
  | 37 => ⟨S_, .f32⟩
  | 38 => ⟨S32, .f32⟩
  | 39 => ⟨S32, .f32⟩
  | 40 => ⟨S32x1, .f32⟩
  | 41 => ⟨S32x50, .f32⟩
  | 42 => ⟨S32x50, .f32⟩
  | 43 => ⟨S32x50, .f32⟩
  | 44 => ⟨S_, .f32⟩
  | 45 => ⟨S32, .f32⟩
  | 46 => ⟨S32x1, .f32⟩
  | 47 => ⟨S32x50, .f32⟩
  | 48 => ⟨S32x50, .f32⟩
  | 49 => ⟨S32x512, .f32⟩
  | 50 => ⟨S32x768, .f32⟩
  | 51 => ⟨S32x2048, .f32⟩
  | 52 => ⟨S32x2048, .f32⟩
  | 53 => ⟨S32x2048, .f32⟩
  | 54 => ⟨S1x2048, .f32⟩
  | 55 => ⟨S32x2048, .f32⟩
  | 56 => ⟨S32x2048, .f32⟩
  | 57 => ⟨S32x512, .f32⟩
  | 58 => ⟨S32x512, .f32⟩
  | 59 => ⟨S32x512, .f32⟩
  | 60 => ⟨S32x512, .f32⟩
  | 61 => ⟨S32x512, .f32⟩
  | 62 => ⟨S32x512, .f32⟩
  | 63 => ⟨S_, .f32⟩
  | 64 => ⟨S32x512, .f32⟩
  | 65 => ⟨S32x512, .f32⟩
  | 66 => ⟨S_, .f32⟩
  | 67 => ⟨S32x512, .f32⟩
  | 68 => ⟨S32x512, .f32⟩
  | 69 => ⟨S32x512, .f32⟩
  | 70 => ⟨S32x512, .f32⟩
  | 71 => ⟨S_, .f32⟩
  | 72 => ⟨S32x512, .f32⟩
  | 73 => ⟨S32x512, .f32⟩
  | 74 => ⟨S_, .f32⟩
  | 75 => ⟨S32x512, .f32⟩
  | 76 => ⟨S32x512, .f32⟩
  | 77 => ⟨S32x512, .f32⟩
  | 78 => ⟨S32x512, .f32⟩
  | 79 => ⟨S_, .f32⟩
  | 80 => ⟨S32x512, .f32⟩
  | 81 => ⟨S32x512, .f32⟩
  | 82 => ⟨S_, .f32⟩
  | 83 => ⟨S32x512, .f32⟩
  | 84 => ⟨S32x512, .f32⟩
  | 85 => ⟨S32x512, .f32⟩
  | 86 => ⟨S32x512, .f32⟩
  | 87 => ⟨S32x512, .f32⟩
  | 88 => ⟨S32x512, .f32⟩
  | 89 => ⟨S32x512, .f32⟩
  | 90 => ⟨S32x512, .f32⟩
  | 91 => ⟨S32x100000, .f32⟩
  | 92 => ⟨S1x100000, .f32⟩
  | 93 => ⟨S32x100000, .f32⟩
  | 94 => ⟨S32x100000, .f32⟩
  | 95 => ⟨S32x10, .f32⟩
  | 96 => ⟨S32x10, .i32⟩
  | 97 => ⟨S32x10, .f32⟩
  | 98 => ⟨S32x10, .i32⟩
  | 99 => ⟨S_, .f32⟩
  | 100 => ⟨S_, .i32⟩
  | 101 => ⟨S32, .f32⟩
  | 102 => ⟨S32, .i32⟩
  | 103 => ⟨S32x1, .i32⟩
  | 104 => ⟨S_, .i32⟩
  | 105 => ⟨S32x1, .i32⟩
  | 106 => ⟨S32x1, .i1⟩
  | 107 => ⟨S_, .i32⟩
  | 108 => ⟨S32x1, .i32⟩
  | 109 => ⟨S32x1, .i32⟩
  | 110 => ⟨S32x1, .i32⟩
  | 111 => ⟨S32x1x1, .i32⟩
  | 112 => ⟨S1, .i32⟩
  | 113 => ⟨S_, .i32⟩
  | 114 => ⟨S32x1x1, .i32⟩
  | 115 => ⟨S32x1x1, .i1⟩
  | 116 => ⟨S1x1x1, .i32⟩
  | 117 => ⟨S32x1x1, .i32⟩
  | 118 => ⟨S32x1x1, .i1⟩
  | 119 => ⟨S32x1x1, .i1⟩
  | 120 => ⟨S_, .i1⟩
  | 121 => ⟨S32x1, .i1⟩
  | 122 => ⟨S32x1, .i32⟩
  | 123 => ⟨S_, .i32⟩
  | 124 => ⟨S32x1, .i32⟩
  | 125 => ⟨S32x1, .i32⟩
  | 126 => ⟨S32, .i32⟩
  | 127 => ⟨S_, .f32⟩
  | _ => ⟨S32x50x512, .f32⟩

abbrev hbmTy0_1 (i : Nat) : BufTy := match i % 128 with
  | 0 => ⟨S_, .f32⟩
  | 1 => ⟨S32x16, .f32⟩
  | 2 => ⟨S_, .i32⟩
  | 3 => ⟨S_, .i32⟩
  | 4 => ⟨S32x16, .i32⟩
  | _ => ⟨S32x50x512, .f32⟩

abbrev hbmTy (i : Nat) : BufTy := match i / 128 with
  | 0 => hbmTy0_0 i
  | 1 => hbmTy0_1 i
  | _ => ⟨S32x50x512, .f32⟩

abbrev bufTy : (tb : Table) → Fin (tcTables nBuf tb) → BufTy
  | .hbm, ⟨i, _⟩ => hbmTy i
  | _, _ => ⟨S32x50x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_cst : Ref sig .tc := ⟨.hbm, 35, rfl⟩
abbrev main_v2 : Ref sig .tc := ⟨.hbm, 36, rfl⟩
abbrev main_cst_0 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_2 : Ref sig .tc := ⟨.hbm, 63, rfl⟩
abbrev main_v27 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_4 : Ref sig .tc := ⟨.hbm, 71, rfl⟩
abbrev main_v33 : Ref sig .tc := ⟨.hbm, 72, rfl⟩
abbrev main_v34 : Ref sig .tc := ⟨.hbm, 73, rfl⟩
abbrev main_cst_5 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_6 : Ref sig .tc := ⟨.hbm, 79, rfl⟩
abbrev main_v39 : Ref sig .tc := ⟨.hbm, 80, rfl⟩
abbrev main_v40 : Ref sig .tc := ⟨.hbm, 81, rfl⟩
abbrev main_cst_7 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_values : Ref sig .tc := ⟨.hbm, 95, rfl⟩
abbrev main_indices : Ref sig .tc := ⟨.hbm, 96, rfl⟩
abbrev main_v53 : Ref sig .tc := ⟨.hbm, 97, rfl⟩
abbrev main_call1_v0 : Ref sig .tc := ⟨.hbm, 98, rfl⟩
abbrev main_call1_cst : Ref sig .tc := ⟨.hbm, 99, rfl⟩
abbrev main_call1_c : Ref sig .tc := ⟨.hbm, 100, rfl⟩
abbrev main_call1_v1_0 : Ref sig .tc := ⟨.hbm, 101, rfl⟩
abbrev main_v54 : Ref sig .tc := ⟨.hbm, 102, rfl⟩
abbrev main_v55 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_c_4 : Ref sig .tc := ⟨.hbm, 123, rfl⟩
abbrev main_call2_v14 : Ref sig .tc := ⟨.hbm, 124, rfl⟩
abbrev main_v56 : Ref sig .tc := ⟨.hbm, 125, rfl⟩
abbrev main_v57 : Ref sig .tc := ⟨.hbm, 126, rfl⟩
abbrev main_cst_8 : Ref sig .tc := ⟨.hbm, 127, rfl⟩
abbrev main_call3_v0 : Ref sig .tc := ⟨.hbm, 128, rfl⟩
abbrev main_v58 : Ref sig .tc := ⟨.hbm, 129, rfl⟩
abbrev main_c : Ref sig .tc := ⟨.hbm, 130, rfl⟩
abbrev main_call4_v0 : Ref sig .tc := ⟨.hbm, 131, rfl⟩
abbrev main_v59 : Ref sig .tc := ⟨.hbm, 132, rfl⟩

abbrev nD : Nat := 1
abbrev τ : Topo := Topo.v7x

variable {F : FTy → Type} [FloatOps F]
-- ==== Kernel2.lean ====
abbrev S32x50 : Shape := ⟨2, ![32, 50]⟩
abbrev S100000x256 : Shape := ⟨2, ![100000, 256]⟩
abbrev S256x2048 : Shape := ⟨2, ![256, 2048]⟩
abbrev S512x2048 : Shape := ⟨2, ![512, 2048]⟩
abbrev S2048 : Shape := ⟨1, ![2048]⟩
abbrev S_ : Shape := ⟨0, ![]⟩
abbrev S32x50x1 : Shape := ⟨3, ![32, 50, 1]⟩
abbrev S1 : Shape := ⟨1, ![1]⟩
abbrev S1x1x1 : Shape := ⟨3, ![1, 1, 1]⟩
abbrev S32x50x256 : Shape := ⟨3, ![32, 50, 256]⟩
abbrev S50x32x256 : Shape := ⟨3, ![50, 32, 256]⟩
abbrev S1x2048 : Shape := ⟨2, ![1, 2048]⟩
abbrev S50x32x512 : Shape := ⟨3, ![50, 32, 512]⟩
abbrev S32x512 : Shape := ⟨2, ![32, 512]⟩
abbrev S1x32x256 : Shape := ⟨3, ![1, 32, 256]⟩
abbrev S32x256 : Shape := ⟨2, ![32, 256]⟩
abbrev S32x2048 : Shape := ⟨2, ![32, 2048]⟩
abbrev S1x32x512 : Shape := ⟨3, ![1, 32, 512]⟩
abbrev S32x50x512 : Shape := ⟨3, ![32, 50, 512]⟩

abbrev nBuf : Space → Nat
  | .hbm => 34
  | .vmem => 7
  | .smem => 0
  | _ => 0

abbrev bufTy : (tb : Table) → Fin (tcTables nBuf tb) → BufTy
  | .hbm, ⟨0, _⟩ => ⟨S32x50, .i32⟩
  | .hbm, ⟨1, _⟩ => ⟨S100000x256, .f32⟩
  | .hbm, ⟨2, _⟩ => ⟨S256x2048, .f32⟩
  | .hbm, ⟨3, _⟩ => ⟨S512x2048, .f32⟩
  | .hbm, ⟨4, _⟩ => ⟨S2048, .f32⟩
  | .hbm, ⟨5, _⟩ => ⟨S_, .i32⟩
  | .hbm, ⟨6, _⟩ => ⟨S32x50, .i32⟩
  | .hbm, ⟨7, _⟩ => ⟨S32x50, .i1⟩
  | .hbm, ⟨8, _⟩ => ⟨S_, .i32⟩
  | .hbm, ⟨9, _⟩ => ⟨S32x50, .i32⟩
  | .hbm, ⟨10, _⟩ => ⟨S32x50, .i32⟩
  | .hbm, ⟨11, _⟩ => ⟨S32x50, .i32⟩
  | .hbm, ⟨12, _⟩ => ⟨S32x50x1, .i32⟩
  | .hbm, ⟨13, _⟩ => ⟨S1, .i32⟩
  | .hbm, ⟨14, _⟩ => ⟨S_, .i32⟩
  | .hbm, ⟨15, _⟩ => ⟨S32x50x1, .i32⟩
  | .hbm, ⟨16, _⟩ => ⟨S32x50x1, .i1⟩
  | .hbm, ⟨17, _⟩ => ⟨S1x1x1, .i32⟩
  | .hbm, ⟨18, _⟩ => ⟨S32x50x1, .i32⟩
  | .hbm, ⟨19, _⟩ => ⟨S32x50x1, .i1⟩
  | .hbm, ⟨20, _⟩ => ⟨S32x50x1, .i1⟩
  | .hbm, ⟨21, _⟩ => ⟨S_, .i1⟩
  | .hbm, ⟨22, _⟩ => ⟨S32x50, .i1⟩
  | .hbm, ⟨23, _⟩ => ⟨S32x50x256, .f32⟩
  | .hbm, ⟨24, _⟩ => ⟨S32x50x256, .i1⟩
  | .hbm, ⟨25, _⟩ => ⟨S_, .f32⟩
  | .hbm, ⟨26, _⟩ => ⟨S32x50x256, .f32⟩
  | .hbm, ⟨27, _⟩ => ⟨S32x50x256, .f32⟩
  | .hbm, ⟨28, _⟩ => ⟨S50x32x256, .f32⟩
  | .hbm, ⟨29, _⟩ => ⟨S1x2048, .f32⟩
  | .hbm, ⟨30, _⟩ => ⟨S50x32x512, .f32⟩
  | .hbm, ⟨31, _⟩ => ⟨S32x512, .f32⟩
  | .hbm, ⟨32, _⟩ => ⟨S32x512, .f32⟩
  | .hbm, ⟨33, _⟩ => ⟨S32x50x512, .f32⟩
  | .local _ .vmem, ⟨0, _⟩ => ⟨S50x32x256, .f32⟩
  | .local _ .vmem, ⟨1, _⟩ => ⟨S256x2048, .f32⟩
  | .local _ .vmem, ⟨2, _⟩ => ⟨S512x2048, .f32⟩
  | .local _ .vmem, ⟨3, _⟩ => ⟨S1x2048, .f32⟩
  | .local _ .vmem, ⟨4, _⟩ => ⟨S50x32x512, .f32⟩
  | .local _ .vmem, ⟨5, _⟩ => ⟨S32x512, .f32⟩
  | .local _ .vmem, ⟨6, _⟩ => ⟨S32x512, .f32⟩
  | _, _ => ⟨S32x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3_0 : Ref sig .tc := ⟨.hbm, 30, rfl⟩
abbrev main_v3_1 : Ref sig .tc := ⟨.hbm, 31, rfl⟩
abbrev main_v3_2 : Ref sig .tc := ⟨.hbm, 32, rfl⟩
abbrev main_v4 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v5 : BitVec 32 := Scalar.addi c0_i32 c50_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v9 : Index := Scalar.indexCast arg7
  let c0_10 : Index := 0#32
  let c0_11 : Index := 0#32
  ![v9.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v30 : Index := Scalar.indexCast arg7
  let c0_14 : Index := 0#32
  let c0_15 : Index := 0#32
  ![v30.toNat, 0, 0]
abbrev stage0_0 : Fin 1 → Memref sig .tc .vmem S50x32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S50x32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference2Ideal.lean ====
abbrev S32x50 : Shape := ⟨2, ![32, 50]⟩
abbrev S100000x256 : Shape := ⟨2, ![100000, 256]⟩
abbrev S256x2048 : Shape := ⟨2, ![256, 2048]⟩
abbrev S512x2048 : Shape := ⟨2, ![512, 2048]⟩
abbrev S2048 : Shape := ⟨1, ![2048]⟩
abbrev S_ : Shape := ⟨0, ![]⟩
abbrev S32x50x1 : Shape := ⟨3, ![32, 50, 1]⟩
abbrev S1 : Shape := ⟨1, ![1]⟩
abbrev S1x1x1 : Shape := ⟨3, ![1, 1, 1]⟩
abbrev S32x50x256 : Shape := ⟨3, ![32, 50, 256]⟩
abbrev S32x512 : Shape := ⟨2, ![32, 512]⟩
abbrev S50x32x256 : Shape := ⟨3, ![50, 32, 256]⟩
abbrev S50x32x512 : Shape := ⟨3, ![50, 32, 512]⟩
abbrev S1x32x256 : Shape := ⟨3, ![1, 32, 256]⟩
abbrev S32x256 : Shape := ⟨2, ![32, 256]⟩
abbrev S32x2048 : Shape := ⟨2, ![32, 2048]⟩
abbrev S1x2048 : Shape := ⟨2, ![1, 2048]⟩
abbrev S1x32x512 : Shape := ⟨3, ![1, 32, 512]⟩
abbrev S32x50x512 : Shape := ⟨3, ![32, 50, 512]⟩

abbrev nBuf : Space → Nat
  | .hbm => 97
  | .vmem => 0
  | .smem => 0
  | _ => 0

abbrev bufTy : (tb : Table) → Fin (tcTables nBuf tb) → BufTy
  | .hbm, ⟨0, _⟩ => ⟨S32x50, .i32⟩
  | .hbm, ⟨1, _⟩ => ⟨S100000x256, .f32⟩
  | .hbm, ⟨2, _⟩ => ⟨S256x2048, .f32⟩
  | .hbm, ⟨3, _⟩ => ⟨S512x2048, .f32⟩
  | .hbm, ⟨4, _⟩ => ⟨S2048, .f32⟩
  | .hbm, ⟨5, _⟩ => ⟨S_, .i32⟩
  | .hbm, ⟨6, _⟩ => ⟨S32x50, .i32⟩
  | .hbm, ⟨7, _⟩ => ⟨S32x50, .i1⟩
  | .hbm, ⟨8, _⟩ => ⟨S_, .i32⟩
  | .hbm, ⟨9, _⟩ => ⟨S32x50, .i32⟩
  | .hbm, ⟨10, _⟩ => ⟨S32x50, .i32⟩
  | .hbm, ⟨11, _⟩ => ⟨S32x50, .i32⟩
  | .hbm, ⟨12, _⟩ => ⟨S32x50x1, .i32⟩
  | .hbm, ⟨13, _⟩ => ⟨S1, .i32⟩
  | .hbm, ⟨14, _⟩ => ⟨S_, .i32⟩
  | .hbm, ⟨15, _⟩ => ⟨S32x50x1, .i32⟩
  | .hbm, ⟨16, _⟩ => ⟨S32x50x1, .i1⟩
  | .hbm, ⟨17, _⟩ => ⟨S1x1x1, .i32⟩
  | .hbm, ⟨18, _⟩ => ⟨S32x50x1, .i32⟩
  | .hbm, ⟨19, _⟩ => ⟨S32x50x1, .i1⟩
  | .hbm, ⟨20, _⟩ => ⟨S32x50x1, .i1⟩
  | .hbm, ⟨21, _⟩ => ⟨S_, .i1⟩
  | .hbm, ⟨22, _⟩ => ⟨S32x50, .i1⟩
  | .hbm, ⟨23, _⟩ => ⟨S32x50x256, .f32⟩
  | .hbm, ⟨24, _⟩ => ⟨S32x50x256, .i1⟩
  | .hbm, ⟨25, _⟩ => ⟨S_, .f32⟩
  | .hbm, ⟨26, _⟩ => ⟨S32x50x256, .f32⟩
  | .hbm, ⟨27, _⟩ => ⟨S32x50x256, .f32⟩
  | .hbm, ⟨28, _⟩ => ⟨S_, .f32⟩
  | .hbm, ⟨29, _⟩ => ⟨S32x512, .f32⟩
  | .hbm, ⟨30, _⟩ => ⟨S_, .f32⟩
  | .hbm, ⟨31, _⟩ => ⟨S32x512, .f32⟩
  | .hbm, ⟨32, _⟩ => ⟨S50x32x256, .f32⟩
  | .hbm, ⟨33, _⟩ => ⟨S_, .f32⟩
  | .hbm, ⟨34, _⟩ => ⟨S50x32x512, .f32⟩
  | .hbm, ⟨35, _⟩ => ⟨S_, .i32⟩
  | .hbm, ⟨36, _⟩ => ⟨S50x32x256, .f32⟩
  | .hbm, ⟨37, _⟩ => ⟨S256x2048, .f32⟩
  | .hbm, ⟨38, _⟩ => ⟨S512x2048, .f32⟩
  | .hbm, ⟨39, _⟩ => ⟨S2048, .f32⟩
  | .hbm, ⟨40, _⟩ => ⟨S_, .i32⟩
  | .hbm, ⟨41, _⟩ => ⟨S32x512, .f32⟩
  | .hbm, ⟨42, _⟩ => ⟨S32x512, .f32⟩
  | .hbm, ⟨43, _⟩ => ⟨S50x32x512, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1x32x256, .f32⟩
  | .hbm, ⟨49, _⟩ => ⟨S32x256, .f32⟩
  | .hbm, ⟨50, _⟩ => ⟨S32x2048, .f32⟩
  | .hbm, ⟨51, _⟩ => ⟨S32x2048, .f32⟩
  | .hbm, ⟨52, _⟩ => ⟨S32x2048, .f32⟩
  | .hbm, ⟨53, _⟩ => ⟨S1x2048, .f32⟩
  | .hbm, ⟨54, _⟩ => ⟨S32x2048, .f32⟩
  | .hbm, ⟨55, _⟩ => ⟨S32x2048, .f32⟩
  | .hbm, ⟨56, _⟩ => ⟨S32x512, .f32⟩
  | .hbm, ⟨57, _⟩ => ⟨S32x512, .f32⟩
  | .hbm, ⟨58, _⟩ => ⟨S32x512, .f32⟩
  | .hbm, ⟨59, _⟩ => ⟨S32x512, .f32⟩
  | .hbm, ⟨60, _⟩ => ⟨S32x512, .f32⟩
  | .hbm, ⟨61, _⟩ => ⟨S32x512, .f32⟩
  | .hbm, ⟨62, _⟩ => ⟨S_, .f32⟩
  | .hbm, ⟨63, _⟩ => ⟨S32x512, .f32⟩
  | .hbm, ⟨64, _⟩ => ⟨S32x512, .f32⟩
  | .hbm, ⟨65, _⟩ => ⟨S_, .f32⟩
  | .hbm, ⟨66, _⟩ => ⟨S32x512, .f32⟩
  | .hbm, ⟨67, _⟩ => ⟨S32x512, .f32⟩
  | .hbm, ⟨68, _⟩ => ⟨S32x512, .f32⟩
  | .hbm, ⟨69, _⟩ => ⟨S32x512, .f32⟩
  | .hbm, ⟨70, _⟩ => ⟨S_, .f32⟩
  | .hbm, ⟨71, _⟩ => ⟨S32x512, .f32⟩
  | .hbm, ⟨72, _⟩ => ⟨S32x512, .f32⟩
  | .hbm, ⟨73, _⟩ => ⟨S_, .f32⟩
  | .hbm, ⟨74, _⟩ => ⟨S32x512, .f32⟩
  | .hbm, ⟨75, _⟩ => ⟨S32x512, .f32⟩
  | .hbm, ⟨76, _⟩ => ⟨S32x512, .f32⟩
  | .hbm, ⟨77, _⟩ => ⟨S32x512, .f32⟩
  | .hbm, ⟨78, _⟩ => ⟨S_, .f32⟩
  | .hbm, ⟨79, _⟩ => ⟨S32x512, .f32⟩
  | .hbm, ⟨80, _⟩ => ⟨S32x512, .f32⟩
  | .hbm, ⟨81, _⟩ => ⟨S_, .f32⟩
  | .hbm, ⟨82, _⟩ => ⟨S32x512, .f32⟩
  | .hbm, ⟨83, _⟩ => ⟨S32x512, .f32⟩
  | .hbm, ⟨84, _⟩ => ⟨S32x512, .f32⟩
  | .hbm, ⟨85, _⟩ => ⟨S32x512, .f32⟩
  | .hbm, ⟨86, _⟩ => ⟨S32x512, .f32⟩
  | .hbm, ⟨87, _⟩ => ⟨S32x512, .f32⟩
  | .hbm, ⟨88, _⟩ => ⟨S32x512, .f32⟩
  | .hbm, ⟨89, _⟩ => ⟨S32x512, .f32⟩
  | .hbm, ⟨90, _⟩ => ⟨S1x32x512, .f32⟩
  | .hbm, ⟨91, _⟩ => ⟨S_, .i32⟩
  | .hbm, ⟨92, _⟩ => ⟨S_, .i32⟩
  | .hbm, ⟨93, _⟩ => ⟨S50x32x512, .f32⟩
  | .hbm, ⟨94, _⟩ => ⟨S_, .i32⟩
  | .hbm, ⟨95, _⟩ => ⟨S_, .i32⟩
  | .hbm, ⟨96, _⟩ => ⟨S32x50x512, .f32⟩
  | _, _ => ⟨S32x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_c : Ref sig .tc := ⟨.hbm, 35, rfl⟩
abbrev main_v5_0 : Ref sig .tc := ⟨.hbm, 36, rfl⟩
abbrev main_v5_1 : Ref sig .tc := ⟨.hbm, 37, rfl⟩
abbrev main_v5_2 : Ref sig .tc := ⟨.hbm, 38, rfl⟩
abbrev main_v5_3 : Ref sig .tc := ⟨.hbm, 39, rfl⟩
abbrev main_v5_4 : Ref sig .tc := ⟨.hbm, 40, rfl⟩
abbrev main_v5_5 : Ref sig .tc := ⟨.hbm, 41, rfl⟩
abbrev main_v5_6 : Ref sig .tc := ⟨.hbm, 42, rfl⟩
abbrev main_v5_7 : Ref sig .tc := ⟨.hbm, 43, rfl⟩
abbrev main_while0c_c_9 : Ref sig .tc := ⟨.hbm, 44, rfl⟩
abbrev main_while0c_v7 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_v0 : Ref sig .tc := ⟨.hbm, 48, rfl⟩
abbrev main_while0b_v7 : Ref sig .tc := ⟨.hbm, 49, rfl⟩
abbrev main_while0b_v8 : Ref sig .tc := ⟨.hbm, 50, rfl⟩
abbrev main_while0b_v9 : Ref sig .tc := ⟨.hbm, 51, rfl⟩
abbrev main_while0b_v10 : Ref sig .tc := ⟨.hbm, 52, rfl⟩
abbrev main_while0b_v11 : Ref sig .tc := ⟨.hbm, 53, rfl⟩
abbrev main_while0b_v12 : Ref sig .tc := ⟨.hbm, 54, rfl⟩
abbrev main_while0b_v13 : Ref sig .tc := ⟨.hbm, 55, rfl⟩
abbrev main_while0b_v14 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_cst_9 : Ref sig .tc := ⟨.hbm, 62, rfl⟩
abbrev main_while0b_v20 : Ref sig .tc := ⟨.hbm, 63, rfl⟩
abbrev main_while0b_v21 : Ref sig .tc := ⟨.hbm, 64, rfl⟩
abbrev main_while0b_cst_10 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_cst_11 : Ref sig .tc := ⟨.hbm, 70, rfl⟩
abbrev main_while0b_v26 : Ref sig .tc := ⟨.hbm, 71, rfl⟩
abbrev main_while0b_v27 : Ref sig .tc := ⟨.hbm, 72, rfl⟩
abbrev main_while0b_cst_12 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_cst_13 : Ref sig .tc := ⟨.hbm, 78, rfl⟩
abbrev main_while0b_v32 : Ref sig .tc := ⟨.hbm, 79, rfl⟩
abbrev main_while0b_v33 : Ref sig .tc := ⟨.hbm, 80, rfl⟩
abbrev main_while0b_cst_14 : Ref sig .tc := ⟨.hbm, 81, rfl⟩
abbrev main_while0b_v34 : Ref sig .tc := ⟨.hbm, 82, rfl⟩
abbrev main_while0b_v35 : Ref sig .tc := ⟨.hbm, 83, rfl⟩
abbrev main_while0b_v36 : Ref sig .tc := ⟨.hbm, 84, rfl⟩
abbrev main_while0b_v37 : Ref sig .tc := ⟨.hbm, 85, rfl⟩
abbrev main_while0b_v38 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_call2_v0 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_v42 : Ref sig .tc := ⟨.hbm, 93, rfl⟩
abbrev main_while0b_c_15 : Ref sig .tc := ⟨.hbm, 94, rfl⟩
abbrev main_while0b_v43 : Ref sig .tc := ⟨.hbm, 95, rfl⟩
abbrev main_v6 : Ref sig .tc := ⟨.hbm, 96, rfl⟩

abbrev nD : Nat := 1
abbrev τ : Topo := Topo.v7x

variable {F : FTy → Type} [FloatOps F]

abbrev main_while0_count : Scf.Loop 32 := ⟨0#32, 50#32, 1#32⟩
-- ==== Kernel3.lean ====
abbrev S32x100000 : Shape := ⟨2, ![32, 100000]⟩
abbrev S32x8x100000 : Shape := ⟨3, ![32, 8, 100000]⟩
abbrev S32x4096 : Shape := ⟨2, ![32, 4096]⟩
abbrev S32x8x4096 : Shape := ⟨3, ![32, 8, 4096]⟩
abbrev S32x1x4096 : Shape := ⟨3, ![32, 1, 4096]⟩

abbrev nBuf : Space → Nat
  | .hbm => 8
  | .vmem => 16
  | .smem => 0
  | _ => 0

abbrev bufTy : (tb : Table) → Fin (tcTables nBuf tb) → BufTy
  | .hbm, ⟨0, _⟩ => ⟨S32x100000, .f32⟩
  | .hbm, ⟨1, _⟩ => ⟨S32x100000, .f32⟩
  | .hbm, ⟨2, _⟩ => ⟨S32x100000, .f32⟩
  | .hbm, ⟨3, _⟩ => ⟨S32x100000, .f32⟩
  | .hbm, ⟨4, _⟩ => ⟨S32x100000, .f32⟩
  | .hbm, ⟨5, _⟩ => ⟨S32x100000, .f32⟩
  | .hbm, ⟨6, _⟩ => ⟨S32x100000, .f32⟩
  | .hbm, ⟨7, _⟩ => ⟨S32x8x100000, .f32⟩
  | .local _ .vmem, ⟨0, _⟩ => ⟨S32x4096, .f32⟩
  | .local _ .vmem, ⟨1, _⟩ => ⟨S32x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x8x4096, .f32⟩
  | .local _ .vmem, ⟨15, _⟩ => ⟨S32x8x4096, .f32⟩
  | _, _ => ⟨S32x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32x100000 : Shape := ⟨2, ![32, 100000]⟩
abbrev S_ : Shape := ⟨0, ![]⟩
abbrev S32x8x100000 : Shape := ⟨3, ![32, 8, 100000]⟩
abbrev S1 : Shape := ⟨1, ![1]⟩

abbrev nBuf : Space → Nat
  | .hbm => 30
  | .vmem => 0
  | .smem => 0
  | _ => 0

abbrev bufTy : (tb : Table) → Fin (tcTables nBuf tb) → BufTy
  | .hbm, ⟨0, _⟩ => ⟨S32x100000, .f32⟩
  | .hbm, ⟨1, _⟩ => ⟨S32x100000, .f32⟩
  | .hbm, ⟨2, _⟩ => ⟨S32x100000, .f32⟩
  | .hbm, ⟨3, _⟩ => ⟨S32x100000, .f32⟩
  | .hbm, ⟨4, _⟩ => ⟨S32x100000, .f32⟩
  | .hbm, ⟨5, _⟩ => ⟨S32x100000, .f32⟩
  | .hbm, ⟨6, _⟩ => ⟨S32x100000, .f32⟩
  | .hbm, ⟨7, _⟩ => ⟨S_, .f32⟩
  | .hbm, ⟨8, _⟩ => ⟨S32x8x100000, .f32⟩
  | .hbm, ⟨9, _⟩ => ⟨S_, .i32⟩
  | .hbm, ⟨10, _⟩ => ⟨S1, .i32⟩
  | .hbm, ⟨11, _⟩ => ⟨S32x8x100000, .f32⟩
  | .hbm, ⟨12, _⟩ => ⟨S_, .i32⟩
  | .hbm, ⟨13, _⟩ => ⟨S1, .i32⟩
  | .hbm, ⟨14, _⟩ => ⟨S32x8x100000, .f32⟩
  | .hbm, ⟨15, _⟩ => ⟨S_, .i32⟩
  | .hbm, ⟨16, _⟩ => ⟨S1, .i32⟩
  | .hbm, ⟨17, _⟩ => ⟨S32x8x100000, .f32⟩
  | .hbm, ⟨18, _⟩ => ⟨S_, .i32⟩
  | .hbm, ⟨19, _⟩ => ⟨S1, .i32⟩
  | .hbm, ⟨20, _⟩ => ⟨S32x8x100000, .f32⟩
  | .hbm, ⟨21, _⟩ => ⟨S_, .i32⟩
  | .hbm, ⟨22, _⟩ => ⟨S1, .i32⟩
  | .hbm, ⟨23, _⟩ => ⟨S32x8x100000, .f32⟩
  | .hbm, ⟨24, _⟩ => ⟨S_, .i32⟩
  | .hbm, ⟨25, _⟩ => ⟨S1, .i32⟩
  | .hbm, ⟨26, _⟩ => ⟨S32x8x100000, .f32⟩
  | .hbm, ⟨27, _⟩ => ⟨S_, .i32⟩
  | .hbm, ⟨28, _⟩ => ⟨S1, .i32⟩
  | .hbm, ⟨29, _⟩ => ⟨S32x8x100000, .f32⟩
  | _, _ => ⟨S32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Proof.ProjFrame.lean ====
/-
  The projection call's frame, at the machine's words: the body is run once at each kind of grid point, its results and the
  running top-ten scratch at contents nobody names, the three inputs left as found.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The two scratch memrefs, whole. -/
abbrev sv : Memref sig .tc .vmem S32x16 .f32 := Memref.whole cc0_scratch0
abbrev si : Memref sig .tc .vmem S32x16 .i32 := Memref.whole cc0_scratch1

/-- A memref of the core held at some contents nobody names. -/
abbrev some' (c : Dev nD) {S : Shape} {e : EltTy} (M : Memref sig .tc .vmem S e) : sProp 𝕄 :=
  iprop(∃ d, owns (c : Thread nD τ) M fullShare d)

/-- The body's triple: from the inputs at given contents and everything else at anything, the kernel runs to its return,
    the inputs as they were and everything else at something. -/
theorem kernelRun (c : Dev nD) (i : grid0.Coords)
    (a1 : Memref sig .tc .vmem S32x512 .f32) (h1 : a1.IsWhole) (a2 : Memref sig .tc .vmem S512x4096 .f32) (h2 : a2.IsWhole)
    (a3 : Memref sig .tc .vmem S1x4096 .f32) (h3 : a3.IsWhole) (a4 : Memref sig .tc .vmem S32x4096 .f32) (h4 : a4.IsWhole)
    (a5 : Memref sig .tc .vmem S32x16 .f32) (h5 : a5.IsWhole) (a6 : Memref sig .tc .vmem S32x16 .i32) (h6 : a6.IsWhole)
    (x1 : FVec F S32x512 .f32) (x2 : FVec F S512x4096 .f32) (x3 : FVec F S1x4096 .f32) (K : PUnit → sProp 𝕄) :
    iprop(owns (c : Thread nD τ) a1 fullShare x1 ∗ owns (c : Thread nD τ) a2 fullShare x2 ∗ owns (c : Thread nD τ) a3 fullShare x3
        ∗ some' c a4 ∗ some' c a5 ∗ some' c a6 ∗ some' c sv ∗ some' c si
        ∗ (iprop(owns (c : Thread nD τ) a1 fullShare x1 ∗ owns (c : Thread nD τ) a2 fullShare x2 ∗ owns (c : Thread nD τ) a3 fullShare x3
        ∗ some' c a4 ∗ some' c a5 ∗ some' c a6 ∗ some' c sv ∗ some' c si) -∗ K ⟨⟩))
      ⊢ wp frame (wpE (defs₀ (F := F)) Variants.none c none) Set.univ
          (cc0__proj_topk_kernel i a1 h1 a2 h2 a3 h3 a4 h4 a5 h5 a6 h6 sv (Memref.isWhole_whole _) si (Memref.isWhole_whole _)) K := by
  simp only [cc0__proj_topk_kernel_eq_skeleton]; unfold cc0__proj_topk_kernel_skel
  unfold some' owns
  iintro ⟨⟨%f1, %e1, H1⟩, ⟨%f2, %e2, H2⟩, ⟨%f3, %e3, H3⟩, ⟨%d4, %f4, -, H4⟩, ⟨%d5, %f5, -, H5⟩, ⟨%d6, %f6, -, H6⟩,
    ⟨%d7, %f7, -, H7⟩, ⟨%d8, %f8, -, H8⟩, Hk⟩
  by_cases hA : Scalar.cmpi .ne (Scalar.extui (Scalar.cmpi .eq (BitVec.ofNat 32 (i 0).val) 0#32) : BitVec 32) 0#32 = 1#1 <;>
  by_cases hB : k0_cond2 i = 1#1
  all_goals
    sl_exec (disch := first | exact hA | exact hB)
    sl_step
    iapply Hk
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    iexists _, _; isplitr; swap; · iexact H8
    ipureintro; rfl

/-! ## The proof data and the launch -/

/-- The proof data on core `c`: the arrays as the region finds them, nothing said of what the body leaves, the scratch
    at some contents between points, nothing owed. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The class invariant, conjunct by conjunct: the two scratch buffers at some contents, the generator register. -/
theorem PhiA_eq (c : Dev nD) :
    (Pipeline.ΦA (U := UR sig nD τ) (Val := Elt F) spec0 c : sProp 𝕄) = iprop((some' (F := F) c sv ∗ some' (F := F) c si) ∗ (∃ r, prngReg c r)) := by
  unfold Pipeline.ΦA; rw [scopedRest0_eq]; simp only [some', sv, si, owns_whole]; try rfl

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the data above. -/
theorem body_obligation (c : Dev nD) : (rdat (F := F) m c).BodyObligation (defs₀ (F := F)) Variants.none () Set.univ := fun t Y _ => by
  rw [bigSep_W0, bigSep_W0, defs₀_row]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨Hv, Hi⟩, Hg⟩, HO, H0, H1, H2, H3, H4, H5⟩
  iapply (kernelRun c (grid0.coords t) (st0_0 t) _ (st0_1 t) _ (st0_2 t) _ (st0_3 t) _ (st0_4 t) _ (st0_5 t) _ (Y 0) (Y 1) (Y 2) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [Hv]; · iexact Hv
  isplitl [Hi]; · iexact Hi
  iintro ⟨H0, H1, H2, ⟨%d3, H3⟩, ⟨%d4, H4⟩, ⟨%d5, H5⟩, Hv, Hi⟩
  isplitl [Hv Hi Hg]
  · isplitl [Hv Hi]
    · isplitl [Hv]; · iexact Hv
      iexact Hi
    iexact Hg
  isplitl [HO]; · iexact HO
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists d3; isplitr; · ipureintro; trivial
                  iexact H3
  isplitl [H4]; · iexists d4; isplitr; · ipureintro; trivial
                  iexact H4
  iexists d5; isplitr; · ipureintro; trivial
  iexact H5

/-- The arguments: what the operations after the call leave alone. -/
def argRefs : List (Ref sig .tc) :=
  [main_arg0, main_arg1, main_arg2, main_arg3, main_arg4, main_arg5, main_arg6, main_arg7, main_arg8, main_arg9, main_arg10]

/-- What those operations may write: everything else. -/
def tailRefs : Finset (Ref sig .tc) := Finset.univ.filter fun b => b ∉ argRefs

theorem mem_tailRefs_of {b y : Ref sig .tc} (h : (Proc.devRef .tc b : DevRef τ sig) = Proc.devRef .tc y) (hy : y ∉ argRefs) : b ∈ tailRefs := by
  refine Finset.mem_filter.mpr ⟨Finset.mem_univ _, fun hb => ?_⟩
  refine StableHlo.devRef_ne_of_ne ?_ h
  rintro rfl
  exact hy hb

theorem tail_writes : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ tailRefs := by
  intro ops hops op hop
  simp only [List.mem_cons, List.mem_nil_iff, or_false] at hops
  rcases hops with rfl | rfl | rfl | rfl | rfl <;>
    simp only [hostOps1, hostOps1_1, hostOps1_2, hostOps1_3, hostOps1_4, List.mem_cons, List.mem_nil_iff, or_false] at hop
  rotate_left 4
  · subst hop
    intro b hb
    exact mem_tailRefs_of (Finset.mem_singleton.mp hb) (by decide)
  all_goals
    repeat' (rcases hop with rfl | hop)
    try subst hop
    all_goals
      intro b hb
      exact mem_tailRefs_of (Finset.mem_singleton.mp hb) (by decide)

set_option backward.isDefEq.respectTransparency.types false in
/-- Every fair run of @main ends, the inputs' arrays and the arguments no window stages as the region found them, every counter at zero. -/
theorem run_main :
    θ_run defs (onTc (τ := τ) (main (F := F))) (s₀ m ρ)
      (fun r => Pipeline.RDat.FramePostR (cfgs 0) (rdat m) tailRefs (V m) r ∧ r.2.sem = fun _ => 0) :=
  Pipeline.RDat.θ_run_frame_around_T (Q' := _) cfgs (0 : Fin 1) launch0 defs₀ Variants.none (rdat m) tailRefs m ρ main
    (hbody := body_obligation m) (hshare := fun c w => by unfold Pipeline.RDat.share; split <;> rfl)
    (howed := fun _ _ => rfl) (V₀ := V0 m) (opss := [hostOps1, hostOps1_1, hostOps1_2, hostOps1_3, hostOps1_4])
    (hsub := sfx_sub) (hfresh := sfx_fresh) (hkeep := sfx_keeps) (hT := tail_writes) (hmain := hmain m Variants.none)
    (hA := fun _ _ => rfl) (hΦ := fun _ _ => rfl)

theorem mem_kept (b : Ref sig .tc) (hs : b.isScoped = false) (hr : ∀ w, (spec0 w).arr.view.ref ≠ b) (hb : b ∈ argRefs) :
    b ∈ Pipeline.restRefs sig spec0 \ tailRefs :=
  Finset.mem_sdiff.mpr ⟨Pipeline.mem_restRefs_of b hs hr, fun h => (Finset.mem_filter.mp h).2 hb⟩

/-- The step's frame: it ends, its eleven arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (mem_kept main_arg0 (by decide) (by decide) (by decide))).trans (V_main_arg0 m c),
    ((h.1 c).2 main_arg1 (mem_kept main_arg1 (by decide) (by decide) (by decide))).trans (V_main_arg1 m c),
    ((h.1 c).2 main_arg2 (mem_kept main_arg2 (by decide) (by decide) (by decide))).trans (V_main_arg2 m c),
    ((h.1 c).2 main_arg3 (mem_kept main_arg3 (by decide) (by decide) (by decide))).trans (V_main_arg3 m c),
    ((h.1 c).2 main_arg4 (mem_kept main_arg4 (by decide) (by decide) (by decide))).trans (V_main_arg4 m c),
    ((h.1 c).2 main_arg5 (mem_kept main_arg5 (by decide) (by decide) (by decide))).trans (V_main_arg5 m c),
    ((h.1 c).2 main_arg6 (mem_kept main_arg6 (by decide) (by decide) (by decide))).trans (V_main_arg6 m c),
    ((h.1 c).2 main_arg7 (mem_kept main_arg7 (by decide) (by decide) (by decide))).trans (V_main_arg7 m c),
    (h.1.arr_in c 1 rfl).trans (V_main_arg8 m c),
    ((h.1 c).2 main_arg9 (mem_kept main_arg9 (by decide) (by decide) (by decide))).trans (V_main_arg9 m c),
    ((h.1 c).2 main_arg10 (mem_kept main_arg10 (by decide) (by decide) (by decide))).trans (V_main_arg10 m c)⟩, h.2⟩) (run_main m ρ)

end Cert.Kernel.Hand

end
-- ==== Proof.ProjRounds.lean ====
/-
  The projection call's body as ten equal rounds between its loads and its stores: each round takes the greatest value in play
  (of a block and of the list of ten carried so far) with its least column, and takes it out of play.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The two scratch memrefs, whole. -/
abbrev sv : Memref sig .tc .vmem S32x16 .f32 := Memref.whole cc0_scratch0
abbrev si : Memref sig .tc .vmem S32x16 .i32 := Memref.whole cc0_scratch1

/-! ## One round of the selection -/

/-- What a round reads and changes: the block's values still in play, the list's, and the ten results found so far. -/
structure St (F : FTy → Type) where
  xm : FVec F S32x4096 .f32
  xr : FVec F S32x16 .f32
  ov : FVec F S32x16 .f32
  oi : IVec S32x16 32

/-- The greatest value in play, row by row. -/
def rmax (xm : FVec F S32x4096 .f32) (xr : FVec F S32x16 .f32) : FVec F S32x1 .f32 :=
  maximumf (shapeCast S32x1 (multiReduction .maximumf [1] S32 xm 0xFF800000#32 reduces_S32x4096_S32 (.inl rfl) rfl) shapeCasts_S32_S32x1)
    (shapeCast S32x1 (multiReduction .maximumf [1] S32 xr 0xFF800000#32 reduces_S32x16_S32 (.inl rfl) rfl) shapeCasts_S32_S32x1)
/-- Where the block attains it. -/
def eqm (xm : FVec F S32x4096 .f32) (xr : FVec F S32x16 .f32) : IVec S32x4096 1 :=
  cmpf .oeq xm (broadcastTo S32x4096 (rmax xm xr) broadcasts_S32x1_S32x4096)
/-- Where the list attains it. -/
def eqr (xm : FVec F S32x4096 .f32) (xr : FVec F S32x16 .f32) : IVec S32x16 1 :=
  cmpf .oeq xr (broadcastTo S32x16 (rmax xm xr) broadcasts_S32x1_S32x16)
/-- The least column that attains it. -/
def ridx (g : IVec S32x4096 32) (ri : IVec S32x16 32) (xm : FVec F S32x4096 .f32) (xr : FVec F S32x16 .f32) : IVec S32x1 32 :=
  minsi (shapeCast S32x1 (multiReductionI .minsi [1] S32 (select (eqm xm xr) g (broadcast S32x4096 2147483647#32)) 2147483647#32
      reduces_S32x4096_S32 rfl) shapeCasts_S32_S32x1)
    (shapeCast S32x1 (multiReductionI .minsi [1] S32 (select (eqr xm xr) ri (broadcast S32x16 2147483647#32)) 2147483647#32
      reduces_S32x16_S32 rfl) shapeCasts_S32_S32x1)

/-- Round `k`: the greatest value and its least column go to lane `k` of the results and out of play. -/
def stp (g : IVec S32x4096 32) (ri : IVec S32x16 32) (k : BitVec 32) (s : St F) : St F where
  xm := select (andi (eqm s.xm s.xr) (cmpi .eq g (broadcastTo S32x4096 (ridx g ri s.xm s.xr) broadcasts_S32x1_S32x4096)))
    (broadcast S32x4096 (Named.named κ "mask" 0xF149F2CA#32)) s.xm
  xr := select (andi (eqr s.xm s.xr) (cmpi .eq ri (broadcastTo S32x16 (ridx g ri s.xm s.xr) broadcasts_S32x1_S32x16)))
    (broadcast S32x16 (Named.named κ "mask" 0xF149F2CA#32)) s.xr
  ov := select (cmpi .eq (iota .tc S32x16 32 [1] iota_S32x16_d1_w32) (broadcast S32x16 k))
    (broadcastTo S32x16 (shapeCast S32x1 (rmax s.xm s.xr) shapeCasts_S32x1_S32x1) broadcasts_S32x1_S32x16) s.ov
  oi := select (cmpi .eq (iota .tc S32x16 32 [1] iota_S32x16_d1_w32) (broadcast S32x16 k))
    (broadcastTo S32x16 (shapeCast S32x1 (ridx g ri s.xm s.xr) shapeCasts_S32x1_S32x1) broadcasts_S32x1_S32x16) s.oi

/-- The state after `n` rounds. -/
def rounds (g : IVec S32x4096 32) (ri : IVec S32x16 32) (s : St F) : ℕ → St F
  | 0 => s
  | n + 1 => stp g ri (BitVec.ofNat 32 n) (rounds g ri s n)

/-- What the rounds of grid point `i` start from: the masked block, the list, no result yet. -/
def start (i : grid0.Coords) (x1 : FVec F S32x512 .f32) (x2 : FVec F S512x4096 .f32) (x3 : FVec F S1x4096 .f32)
    (yv : FVec F S32x16 .f32) : St F := ⟨k0_pay5 i x1 x2 x3, yv, k0_pay6, k0_pay7⟩

/-- The state after the ten rounds of grid point `i`. -/
def done (i : grid0.Coords) (x1 : FVec F S32x512 .f32) (x2 : FVec F S512x4096 .f32) (x3 : FVec F S1x4096 .f32)
    (yv : FVec F S32x16 .f32) (yi : IVec S32x16 32) : St F := rounds (k0_pay4 i) yi (start i x1 x2 x3 yv) 10

/-- The first point's condition, as the body computes it. -/
abbrev condA (i : grid0.Coords) : Prop :=
  Scalar.cmpi .ne (Scalar.extui (Scalar.cmpi .eq (BitVec.ofNat 32 (i 0).val) 0#32) : BitVec 32) 0#32 = 1#1

/-- The list as the rounds of point `i` find it: emptied at the first point. -/
def inV (i : grid0.Coords) (s : FVec F S32x16 .f32) : FVec F S32x16 .f32 := if condA i then k0_pay1 else s
/-- Its columns likewise. -/
def inI (i : grid0.Coords) (s : IVec S32x16 32) : IVec S32x16 32 := if condA i then k0_pay2 else s

theorem hz : (![0, 0] : Fin 2 → ℕ) = fun _ => 0 := funext fun a => by fin_cases a <;> rfl

/-- What a buffer holds after stores of which the last is of the whole of it: that store's payload. -/
theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-- What the body reads. -/
structure Rd (F : FTy → Type) where
  x1 : FVec F S32x512 .f32
  x2 : FVec F S512x4096 .f32
  x3 : FVec F S1x4096 .f32
  yv : FVec F S32x16 .f32
  yi : IVec S32x16 32

section Parts

/-- Part 2 in terms of rounds. -/
theorem part2_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part2 i arg1 harg1 arg2 harg2 arg3 harg3 arg4 harg4 arg5 harg5 arg6 harg6 arg7 harg7 arg8 harg8 g s.xm s.xr ri (iota .tc S32x16 32 [1] iota_S32x16_d1_w32) s.ov s.oi (rmax s.xm s.xr) (eqm s.xm s.xr) (eqr s.xm s.xr) 2147483647#32
      = pure ⟨(stp g ri 0#32 s).ov, (stp g ri 0#32 s).oi, (stp g ri 0#32 s).xm, (stp g ri 0#32 s).xr, (rmax (stp g ri 0#32 s).xm (stp g ri 0#32 s).xr), (eqm (stp g ri 0#32 s).xm (stp g ri 0#32 s).xr), (eqr (stp g ri 0#32 s).xm (stp g ri 0#32 s).xr), (ridx g ri (stp g ri 0#32 s).xm (stp g ri 0#32 s).xr)⟩ := by
  rw [k0_part2_eq_skeleton]; rfl

/-- Part 3 in terms of rounds. -/
theorem part3_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part3 i arg1 harg1 arg2 harg2 arg3 harg3 arg4 harg4 arg5 harg5 arg6 harg6 arg7 harg7 arg8 harg8 g ri (iota .tc S32x16 32 [1] iota_S32x16_d1_w32) s.ov s.oi s.xm s.xr (rmax s.xm s.xr) (eqm s.xm s.xr) (eqr s.xm s.xr) (ridx g ri s.xm s.xr)
      = pure ⟨(stp g ri 1#32 s).xm, (stp g ri 1#32 s).xr, (eqm (stp g ri 1#32 s).xm (stp g ri 1#32 s).xr), (eqr (stp g ri 1#32 s).xm (stp g ri 1#32 s).xr), (ridx g ri (stp g ri 1#32 s).xm (stp g ri 1#32 s).xr), (stp g ri 2#32 (stp g ri 1#32 s)).ov, (stp g ri 2#32 (stp g ri 1#32 s)).oi⟩ := by
  rw [k0_part3_eq_skeleton]; rfl

/-- Part 4 in terms of rounds. -/
theorem part4_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part4 i arg1 harg1 arg2 harg2 arg3 harg3 arg4 harg4 arg5 harg5 arg6 harg6 arg7 harg7 arg8 harg8 g ri (iota .tc S32x16 32 [1] iota_S32x16_d1_w32) s.xm s.xr (eqm s.xm s.xr) (eqr s.xm s.xr) (ridx g ri s.xm s.xr) (stp g ri 2#32 s).ov (stp g ri 2#32 s).oi
      = pure ⟨(stp g ri 3#32 (stp g ri 2#32 s)).ov, (stp g ri 3#32 (stp g ri 2#32 s)).oi, (stp g ri 3#32 (stp g ri 2#32 s)).xm, (stp g ri 3#32 (stp g ri 2#32 s)).xr⟩ := by
  rw [k0_part4_eq_skeleton]; rfl

/-- Part 5 in terms of rounds. -/
theorem part5_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part5 i arg1 harg1 arg2 harg2 arg3 harg3 arg4 harg4 arg5 harg5 arg6 harg6 arg7 harg7 arg8 harg8 g ri (iota .tc S32x16 32 [1] iota_S32x16_d1_w32) s.ov s.oi s.xm s.xr
      = pure ⟨(stp g ri 4#32 s).ov, (stp g ri 4#32 s).oi, (stp g ri 4#32 s).xm, (stp g ri 4#32 s).xr, (rmax (stp g ri 4#32 s).xm (stp g ri 4#32 s).xr), (eqm (stp g ri 4#32 s).xm (stp g ri 4#32 s).xr), (eqr (stp g ri 4#32 s).xm (stp g ri 4#32 s).xr), 2147483647#32⟩ := by
  rw [k0_part5_eq_skeleton]; rfl

/-- Part 6 in terms of rounds. -/
theorem part6_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part6 i arg1 harg1 arg2 harg2 arg3 harg3 arg4 harg4 arg5 harg5 arg6 harg6 arg7 harg7 arg8 harg8 g ri (iota .tc S32x16 32 [1] iota_S32x16_d1_w32) s.ov s.oi s.xm s.xr (rmax s.xm s.xr) (eqm s.xm s.xr) (eqr s.xm s.xr) 2147483647#32
      = pure ⟨(stp g ri 5#32 s).ov, (stp g ri 5#32 s).oi, (stp g ri 5#32 s).xm, (stp g ri 5#32 s).xr, (rmax (stp g ri 5#32 s).xm (stp g ri 5#32 s).xr), (eqm (stp g ri 5#32 s).xm (stp g ri 5#32 s).xr), (eqr (stp g ri 5#32 s).xm (stp g ri 5#32 s).xr), (ridx g ri (stp g ri 5#32 s).xm (stp g ri 5#32 s).xr)⟩ := by
  rw [k0_part6_eq_skeleton]; rfl

/-- Part 7 in terms of rounds. -/
theorem part7_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part7 i arg1 harg1 arg2 harg2 arg3 harg3 arg4 harg4 arg5 harg5 arg6 harg6 arg7 harg7 arg8 harg8 g ri (iota .tc S32x16 32 [1] iota_S32x16_d1_w32) s.ov s.oi s.xm s.xr (rmax s.xm s.xr) (eqm s.xm s.xr) (eqr s.xm s.xr) (ridx g ri s.xm s.xr)
      = pure ⟨(stp g ri 6#32 s).xm, (stp g ri 6#32 s).xr, (eqm (stp g ri 6#32 s).xm (stp g ri 6#32 s).xr), (eqr (stp g ri 6#32 s).xm (stp g ri 6#32 s).xr), (ridx g ri (stp g ri 6#32 s).xm (stp g ri 6#32 s).xr), (stp g ri 7#32 (stp g ri 6#32 s)).ov, (stp g ri 7#32 (stp g ri 6#32 s)).oi⟩ := by
  rw [k0_part7_eq_skeleton]; rfl

/-- Part 8 in terms of rounds. -/
theorem part8_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (g : IVec S32x4096 32) (ri : IVec S32x16 32) (s : St F) :
    k0_part8 i arg1 harg1 arg2 harg2 arg3 harg3 arg4 harg4 arg5 harg5 arg6 harg6 arg7 harg7 arg8 harg8 g ri (iota .tc S32x16 32 [1] iota_S32x16_d1_w32) s.xm s.xr (eqm s.xm s.xr) (eqr s.xm s.xr) (ridx g ri s.xm s.xr) (stp g ri 7#32 s).ov (stp g ri 7#32 s).oi
      = pure ⟨(stp g ri 8#32 (stp g ri 7#32 s)).ov, (stp g ri 8#32 (stp g ri 7#32 s)).oi, (stp g ri 8#32 (stp g ri 7#32 s)).xm, (stp g ri 8#32 (stp g ri 7#32 s)).xr⟩ := by
  rw [k0_part8_eq_skeleton]; rfl

/-- The body's first loads and stores: the list emptied at the first point, the block of logits stored; what was read. -/
def loads (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) : Prog (TpuEff nD τ sig (Elt F) Λ₀ .tc) (Rd F) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v404 : Vec F S32x16 .f32 ← Prog.lift (.load arg7 (Rect.unit (s := S32x16) ![0, 0] S32x16.size inb_S32x16_S32x16_0_0).toLoadRect (View.loadsAt_vmem h_S32x16))
    Prog.lift (.store arg7 (Rect.unit (s := S32x16) ![0, 0] S32x16.size inb_S32x16_S32x16_0_0) (k0_pay1 (F := F)) Finset.univ (View.stores_vmem_bits_univ h_S32x16 rfl) (.inl rfl))
    let v408 : Vec F S32x16 .i32 ← Prog.lift (.load arg8 (Rect.unit (s := S32x16) ![0, 0] S32x16.size inb_S32x16_S32x16_0_0).toLoadRect (View.loadsAt_vmem h_S32x16))
    Prog.lift (.store arg8 (Rect.unit (s := S32x16) ![0, 0] S32x16.size inb_S32x16_S32x16_0_0) k0_pay2 Finset.univ (View.stores_vmem_bits_univ h_S32x16 rfl) (.inl rfl))
    pure ⟨⟩
  else do
    pure ⟨⟩
  let v3 : Vec F S32x512 .f32 ← Prog.lift (.load arg1 (Rect.unit (s := S32x512) ![0, 0] S32x512.size inb_S32x512_S32x512_0_0).toLoadRect (View.loadsAt_vmem h_S32x512))
  let v4 : Vec F S512x4096 .f32 ← Prog.lift (.load arg2 (Rect.unit (s := S512x4096) ![0, 0] S512x4096.size inb_S512x4096_S512x4096_0_0).toLoadRect (View.loadsAt_vmem h_S512x4096))
  let v6 : Vec F S1x4096 .f32 ← Prog.lift (.load arg3 (Rect.unit (s := S1x4096) ![0, 0] S1x4096.size inb_S1x4096_S1x4096_0_0).toLoadRect (View.loadsAt_vmem h_S1x4096))
  let v10 : Vec F S32x4096 .f32 ← Prog.lift (.load arg4 (Rect.unit (s := S32x4096) ![0, 0] S32x4096.size inb_S32x4096_S32x4096_0_0).toLoadRect (View.loadsAt_vmem h_S32x4096))
  Prog.lift (.store arg4 (Rect.unit (s := S32x4096) ![0, 0] S32x4096.size inb_S32x4096_S32x4096_0_0) (k0_pay3 v3 v4 v6) Finset.univ (View.stores_vmem_bits_univ h_S32x4096 rfl) (.inl rfl))
  let v19 : Vec F S32x16 .f32 ← Prog.lift (.load arg7 (Rect.unit (s := S32x16) ![0, 0] S32x16.size inb_S32x16_S32x16_0_0).toLoadRect (View.loadsAt_vmem h_S32x16))
  let v20 : Vec F S32x16 .i32 ← Prog.lift (.load arg8 (Rect.unit (s := S32x16) ![0, 0] S32x16.size inb_S32x16_S32x16_0_0).toLoadRect (View.loadsAt_vmem h_S32x16))
  pure ⟨v3, v4, v6, v19, v20⟩

theorem part1_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) : k0_part1 (F := F) i arg1 harg1 arg2 harg2 arg3 harg3 arg4 harg4 arg5 harg5 arg6 harg6 arg7 harg7 arg8 harg8 = loads i arg1 harg1 arg2 harg2 arg3 harg3 arg4 harg4 arg5 harg5 arg6 harg6 arg7 harg7 arg8 harg8 >>= fun x : Rd F => pure ⟨BitVec.ofNat 32 (i 0).val, k0_pay4 i, (start i x.x1 x.x2 x.x3 x.yv).xm,
      (start i x.x1 x.x2 x.x3 x.yv).xr, x.yi, (iota .tc S32x16 32 [1] iota_S32x16_d1_w32), (start i x.x1 x.x2 x.x3 x.yv).ov, (start (F := F) i x.x1 x.x2 x.x3 x.yv).oi,
      rmax (start i x.x1 x.x2 x.x3 x.yv).xm (start i x.x1 x.x2 x.x3 x.yv).xr,
      eqm (start i x.x1 x.x2 x.x3 x.yv).xm (start i x.x1 x.x2 x.x3 x.yv).xr,
      eqr (start i x.x1 x.x2 x.x3 x.yv).xm (start i x.x1 x.x2 x.x3 x.yv).xr, 2147483647#32⟩ := by
  rw [k0_part1_eq_skeleton]; unfold k0_part1_skel loads
  dsimp only
  split <;> rfl

/-- The body's last stores, of the state the rounds end in. -/
def stores (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) (s : St F) : Prog (TpuEff nD τ sig (Elt F) Λ₀ .tc) (Σ' (_ : FVec F S32x16 .f32) (_ : IVec S32x16 32) (_ : BitVec 32), BitVec 32) := do
  let v394 : Vec F S32x16 .f32 ← Prog.lift (.load arg7 (Rect.unit (s := S32x16) ![0, 0] S32x16.size inb_S32x16_S32x16_0_0).toLoadRect (View.loadsAt_vmem h_S32x16))
  Prog.lift (.store arg7 (Rect.unit (s := S32x16) ![0, 0] S32x16.size inb_S32x16_S32x16_0_0) (shapeCast S32x16 s.ov shapeCasts_S32x16_S32x16) Finset.univ (View.stores_vmem_bits_univ h_S32x16 rfl) (.inl rfl))
  let v397 : Vec F S32x16 .i32 ← Prog.lift (.load arg8 (Rect.unit (s := S32x16) ![0, 0] S32x16.size inb_S32x16_S32x16_0_0).toLoadRect (View.loadsAt_vmem h_S32x16))
  Prog.lift (.store arg8 (Rect.unit (s := S32x16) ![0, 0] S32x16.size inb_S32x16_S32x16_0_0) (shapeCast S32x16 s.oi shapeCasts_S32x16_S32x16) Finset.univ (View.stores_vmem_bits_univ h_S32x16 rfl) (.inl rfl))

  pure ⟨s.ov, s.oi, Scalar.extui (Scalar.cmpi .eq (BitVec.ofNat 32 (i 0).val) 24#32), 0#32⟩

/-- The body up to its last conditional: the loads, the ten rounds, the stores. -/
theorem part9_eq (i : grid0.Coords) (arg1 : Memref sig .tc .vmem S32x512 .f32) (harg1 : arg1.IsWhole) (arg2 : Memref sig .tc .vmem S512x4096 .f32) (harg2 : arg2.IsWhole) (arg3 : Memref sig .tc .vmem S1x4096 .f32) (harg3 : arg3.IsWhole) (arg4 : Memref sig .tc .vmem S32x4096 .f32) (harg4 : arg4.IsWhole) (arg5 : Memref sig .tc .vmem S32x16 .f32) (harg5 : arg5.IsWhole) (arg6 : Memref sig .tc .vmem S32x16 .i32) (harg6 : arg6.IsWhole) (arg7 : Memref sig .tc .vmem S32x16 .f32) (harg7 : arg7.IsWhole) (arg8 : Memref sig .tc .vmem S32x16 .i32) (harg8 : arg8.IsWhole) : k0_part9 (F := F) i arg1 harg1 arg2 harg2 arg3 harg3 arg4 harg4 arg5 harg5 arg6 harg6 arg7 harg7 arg8 harg8
    = loads i arg1 harg1 arg2 harg2 arg3 harg3 arg4 harg4 arg5 harg5 arg6 harg6 arg7 harg7 arg8 harg8 >>= fun x : Rd F => stores i arg1 harg1 arg2 harg2 arg3 harg3 arg4 harg4 arg5 harg5 arg6 harg6 arg7 harg7 arg8 harg8 (done i x.x1 x.x2 x.x3 x.yv x.yi) := by
  rw [k0_part9_eq_skeleton]; unfold k0_part9_skel
  rw [part1_eq, bind_assoc]
  congr 1

end Parts

end Cert.KernelIdeal.Hand

end
-- ==== Proof.ProjBody.lean ====
/-
  The projection call's body, run once at each kind of grid point, with what it leaves in every buffer: the block of logits,
  and in the scratch the ten greatest of the block and the list it was handed, found by ten equal rounds.
-/
module

public import proofs.«01_k».proof.Proof.Gen.KernelIdeal.Frame
public import proofs.«01_k».proof.Proof.Gen.KernelIdeal.Skeleton
public import Idealize.ShloMosaic.Lib.Pipeline.Value
public import proofs.«01_k».proof.Proof.ProjRounds
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body's triple -/

theorem done_congr (i : grid0.Coords) {x1 z1 : FVec F S32x512 .f32} {x2 z2 : FVec F S512x4096 .f32} {x3 z3 : FVec F S1x4096 .f32}
    {yv zv : FVec F S32x16 .f32} {yi zi : IVec S32x16 32} (h1 : x1 = z1) (h2 : x2 = z2) (h3 : x3 = z3) (hv : yv = zv) (hi : yi = zi) :
    done i x1 x2 x3 yv yi = done i z1 z2 z3 zv zi := by rw [h1, h2, h3, hv, hi]

set_option maxHeartbeats 3000000 in
/-- From every buffer at given contents the body runs to its return: the inputs as they were, the logits' buffer at the
    block's logits, the scratch at the ten rounds' results, and the two small results likewise at the last point only. -/
theorem kernelRun (c : Dev nD) (i : grid0.Coords)
    (a1 : Memref sig .tc .vmem S32x512 .f32) (h1 : a1.IsWhole) (a2 : Memref sig .tc .vmem S512x4096 .f32) (h2 : a2.IsWhole)
    (a3 : Memref sig .tc .vmem S1x4096 .f32) (h3 : a3.IsWhole) (a4 : Memref sig .tc .vmem S32x4096 .f32) (h4 : a4.IsWhole)
    (a5 : Memref sig .tc .vmem S32x16 .f32) (h5 : a5.IsWhole) (a6 : Memref sig .tc .vmem S32x16 .i32) (h6 : a6.IsWhole)
    (x1 : FVec F S32x512 .f32) (x2 : FVec F S512x4096 .f32) (x3 : FVec F S1x4096 .f32) (x4 : FVec F S32x4096 .f32)
    (x5 : FVec F S32x16 .f32) (x6 : IVec S32x16 32) (x7 : FVec F S32x16 .f32) (x8 : IVec S32x16 32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5
        ∗ owns (Val := Elt F) (c : Thread nD τ) a6 fullShare x6
        ∗ owns (c : Thread nD τ) sv fullShare x7 ∗ owns (Val := Elt F) (c : Thread nD τ) si fullShare x8
        ∗ (iprop(owns (c : Thread nD τ) a1 fullShare x1 ∗ owns (c : Thread nD τ) a2 fullShare x2 ∗ owns (c : Thread nD τ) a3 fullShare x3
        ∗ owns (c : Thread nD τ) a4 fullShare (k0_pay3 x1 x2 x3)
        ∗ owns (c : Thread nD τ) a5 fullShare (if k0_cond2 i = 1#1 then (done i x1 x2 x3 (inV i x7) (inI i x8)).ov else x5)
        ∗ owns (Val := Elt F) (c : Thread nD τ) a6 fullShare (if k0_cond2 i = 1#1 then (done i x1 x2 x3 (inV i x7) (inI i x8)).oi else x6)
        ∗ owns (c : Thread nD τ) sv fullShare (done i x1 x2 x3 (inV i x7) (inI i x8)).ov
        ∗ owns (Val := Elt F) (c : Thread nD τ) si fullShare (done i x1 x2 x3 (inV i x7) (inI i x8)).oi) -∗ K ⟨⟩))
      ⊢ wp frame (wpE (defs₀ (F := F)) Variants.none c none) Set.univ
          (cc0__proj_topk_kernel i a1 h1 a2 h2 a3 h3 a4 h4 a5 h5 a6 h6 sv (Memref.isWhole_whole _) si (Memref.isWhole_whole _)) K := by
  simp only [cc0__proj_topk_kernel_eq_skeleton]; unfold cc0__proj_topk_kernel_skel
  rw [part9_eq]; unfold loads stores
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, Hk⟩
  subst e1 e2 e3 e4 e5 e6 e7 e8
  have r1 := (View.ld_unit_zero hz inb_S32x512_S32x512_0_0 (a1.view.read (Elt F) f1)).symm
  have r2 := (View.ld_unit_zero hz inb_S512x4096_S512x4096_0_0 (a2.view.read (Elt F) f2)).symm
  have r3 := (View.ld_unit_zero hz inb_S1x4096_S1x4096_0_0 (a3.view.read (Elt F) f3)).symm
  have r7 := (View.ld_unit_zero hz inb_S32x16_S32x16_0_0 (sv.view.read (Elt F) f7)).symm
  have r8 := (View.ld_unit_zero hz inb_S32x16_S32x16_0_0 (si.view.read (Elt F) f8)).symm
  have r7' := (View.readCov_unit_zero (Val := Elt F) sv.view hz inb_S32x16_S32x16_0_0 (k0_pay1 (F := F))).symm
  have r8' := (View.readCov_unit_zero (Val := Elt F) si.view hz inb_S32x16_S32x16_0_0 k0_pay2).symm
  by_cases hA : condA i
  · have eV : inV i (sv.view.read (Elt F) f7) = _ := (if_pos hA).trans r7'
    have eI : inI i (si.view.read (Elt F) f8) = _ := (if_pos hA).trans r8'
    have eD := done_congr i r1 r2 r3 eV eI
    by_cases hB : k0_cond2 i = 1#1
    all_goals
      sl_exec (disch := first | exact hA | exact hB)
      sl_step
      iapply Hk
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists _; isplitr; swap; · iexact H4
                      ipureintro; rw [read_writes_whole _ _ hz, r1, r2, r3]; rfl
      isplitl [H5]; · iexists _; isplitr; swap; · iexact H5
                      ipureintro
                      first
                      | rw [if_neg hB]
                      | rw [if_pos hB, read_writes_whole _ _ hz]
                        exact (congrArg St.ov eD).symm
      isplitl [H6]; · iexists _; isplitr; swap; · iexact H6
                      ipureintro
                      first
                      | rw [if_neg hB]
                      | rw [if_pos hB, read_writes_whole _ _ hz]
                        exact (congrArg St.oi eD).symm
      isplitl [H7]; · iexists _; isplitr; swap; · iexact H7
                      ipureintro; rw [read_writes_whole _ _ hz]
                      refine (shapeCast_self _ _).trans ?_
                      exact (congrArg St.ov eD).symm
      iexists _; isplitr; swap; · iexact H8
      ipureintro; rw [read_writes_whole _ _ hz]
      refine (shapeCast_self _ _).trans ?_
      exact (congrArg St.oi eD).symm
  · have eV : inV i (sv.view.read (Elt F) f7) = _ := (if_neg hA).trans r7
    have eI : inI i (si.view.read (Elt F) f8) = _ := (if_neg hA).trans r8
    have eD := done_congr i r1 r2 r3 eV eI
    by_cases hB : k0_cond2 i = 1#1
    all_goals
      sl_exec (disch := first | exact hA | exact hB)
      sl_step
      iapply Hk
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists _; isplitr; swap; · iexact H4
                      ipureintro; rw [read_writes_whole _ _ hz, r1, r2, r3]; rfl
      isplitl [H5]; · iexists _; isplitr; swap; · iexact H5
                      ipureintro
                      first
                      | rw [if_neg hB]
                      | rw [if_pos hB, read_writes_whole _ _ hz]
                        exact (congrArg St.ov eD).symm
      isplitl [H6]; · iexists _; isplitr; swap; · iexact H6
                      ipureintro
                      first
                      | rw [if_neg hB]
                      | rw [if_pos hB, read_writes_whole _ _ hz]
                        exact (congrArg St.oi eD).symm
      isplitl [H7]; · iexists _; isplitr; swap; · iexact H7
                      ipureintro; rw [read_writes_whole _ _ hz]
                      refine (shapeCast_self _ _).trans ?_
                      exact (congrArg St.ov eD).symm
      iexists _; isplitr; swap; · iexact H8
      ipureintro; rw [read_writes_whole _ _ hz]
      refine (shapeCast_self _ _).trans ?_
      exact (congrArg St.oi eD).symm

end Cert.KernelIdeal.Hand

end
-- ==== Proof.ProjHost.lean ====
/-
  The host side of a decoding step: the new cell and hidden rows as one function of the step's arguments, which the
  buffers the projection call finds, the reference's results and the precondition all hold.
-/
module

public import proofs.«01_k».proof.Proof.Gen.ReferenceIdeal
public import proofs.«01_k».proof.Proof.Gen.KernelIdeal.Frame
public import proofs.«01_k».proof.Proof.Gen.Pre_finite_logits
public import Idealize.ShloMosaic.Lib.StableHlo.Run

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem

/-- A row's place in the table: a negative token counts from the end. -/
def place (tok : IVec S32 32) : IVec S32x1 32 :=
  broadcastInDim S32x1 ![0] bcast_S32_S32x1_0 (select (cmpi .slt tok (broadcastInDim S32 ![] bcast_S_S32 (constantI S_ 32 0#32)))
    (addi tok (broadcastInDim S32 ![] bcast_S_S32 (constantI S_ 32 100000#32))) tok)

/-- The tokens' embeddings: the table's rows, a place outside the table giving no number. -/
def embed (tab : FVec Ideal S100000x256 .f32) (tok : IVec S32 32) : FVec Ideal S32x256 .f32 :=
  select (broadcastInDim S32x256 ![0] bcast_S32_S32x256_0 (Host.reduce IntOp.andi
      (andi (cmpi .sge (place tok) (broadcastInDim S32x1 ![] bcast_S_S32x1 (constantI S_ 32 0#32)))
        (cmpi .sle (place tok) (broadcastInDim S32x1 ![0, 1] bcast_S1x1_S32x1_0_1 (broadcastInDim S1x1 ![1] bcast_S1_S1x1_1 (constantI S1 32 99999#32)))))
      (constantI S_ 1 1#1) reducesTo_S32x1_S32_d1 h_S_))
    (Host.gather gather_S100000x256_S32x1_S32x256_1_0_n_n_0_1_1256 tab (place tok))
    (broadcastInDim S32x256 ![] bcast_S_S32x256 (constant S_ .f32 0x7FC00000#32))

/-- The attention's scores. -/
def scores (E : FVec Ideal S32x50x512 .f32) (h : FVec Ideal S32x512 .f32) : FVec Ideal S32x50 .f32 :=
  Host.dotGeneral dot_S32x50x512_S32x512_S32x50_2_1_1_n_0_0 none E h

/-- The exponentials of the scores less each row's greatest. -/
def powers (s : FVec Ideal S32x50 .f32) : FVec Ideal S32x50 .f32 :=
  Host.exp (subf s (broadcastInDim S32x50 ![0, 1] bcast_S32x1_S32x50_0_1 (broadcastInDim S32x1 ![0] bcast_S32_S32x1_0
    (maximumf (broadcastInDim S32 ![] bcast_S_S32 (constant S_ .f32 0xFF800000#32))
      (Host.reduce FloatOps.maximumf s (constant S_ .f32 0xFF800000#32) reducesTo_S32x50_S32_d1 h_S_)))))

/-- The attention's weights from the exponentials. -/
def weights (p : FVec Ideal S32x50 .f32) : FVec Ideal S32x50 .f32 :=
  Host.divf p (broadcastInDim S32x50 ![0, 1] bcast_S32x1_S32x50_0_1 (broadcastInDim S32x1 ![0] bcast_S32_S32x1_0
    (Host.reduceAdd p (constant S_ .f32 0x00000000#32) reducesTo_S32x50_S32_d1 h_S_)))

/-- The context rows. -/
def context (E : FVec Ideal S32x50x512 .f32) (h : FVec Ideal S32x512 .f32) : FVec Ideal S32x512 .f32 :=
  Host.dotGeneral dot_S32x50_S32x50x512_S32x512_1_1_n_2_0_0 none (weights (powers (scores E h))) E

/-- An embedding and a context side by side. -/
def beside (a : FVec Ideal S32x256 .f32) (b : FVec Ideal S32x512 .f32) : FVec Ideal S32x768 .f32 :=
  concatenate S32x768 1 [⟨S32x256, a⟩, ⟨S32x512, b⟩] concatenates_S32x256_S32x512_S32x768_d1

/-- The four gates before their curves. -/
def gates (x : FVec Ideal S32x768 .f32) (h : FVec Ideal S32x512 .f32) (Wx : FVec Ideal S768x2048 .f32) (Wh : FVec Ideal S512x2048 .f32)
    (b : FVec Ideal S2048 .f32) : FVec Ideal S32x2048 .f32 :=
  addf (addf (Host.dotGeneral dot_S32x768_S768x2048_S32x2048_1_0_0_1_n_n none x Wx) (Host.dotGeneral dot_S32x512_S512x2048_S32x2048_1_0_0_1_n_n none h Wh))
    (broadcastInDim S32x2048 ![0, 1] bcast_S1x2048_S32x2048_0_1 (broadcastInDim S1x2048 ![1] bcast_S2048_S1x2048_1 b))

/-- The logistic curve. -/
def curve (x : FVec Ideal S32x512 .f32) : FVec Ideal S32x512 .f32 :=
  Host.divf (broadcastInDim S32x512 ![] bcast_S_S32x512 (constant S_ .f32 0x3F800000#32))
    (addf (broadcastInDim S32x512 ![] bcast_S_S32x512 (constant S_ .f32 0x3F800000#32)) (Host.exp (Host.negf x)))

/-- The new cell from the gates and the old cell. -/
def cellOf (g : FVec Ideal S32x2048 .f32) (c : FVec Ideal S32x512 .f32) : FVec Ideal S32x512 .f32 :=
  addf (mulf (curve (extractStridedSlice S32x512 ![0, 512] g slices_S32x2048_S32x512_0_512)) c)
    (mulf (curve (extractStridedSlice S32x512 ![0, 0] g slices_S32x2048_S32x512_0_0)) (Host.tanh (extractStridedSlice S32x512 ![0, 1024] g slices_S32x2048_S32x512_0_1024)))

/-- The new hidden rows from the gates and the new cell. -/
def hiddenOf (g : FVec Ideal S32x2048 .f32) (c : FVec Ideal S32x512 .f32) : FVec Ideal S32x512 .f32 :=
  mulf (curve (extractStridedSlice S32x512 ![0, 1536] g slices_S32x2048_S32x512_0_1536)) (Host.tanh c)

/-- A step's gates from its arguments. -/
def stepGates (E : FVec Ideal S32x50x512 .f32) (h : FVec Ideal S32x512 .f32) (tok : IVec S32 32) (tab : FVec Ideal S100000x256 .f32)
    (Wx : FVec Ideal S768x2048 .f32) (Wh : FVec Ideal S512x2048 .f32) (b : FVec Ideal S2048 .f32) : FVec Ideal S32x2048 .f32 :=
  gates (beside (embed tab tok) (context E h)) h Wx Wh b

/-- A step's new cell. -/
def stepCell (E : FVec Ideal S32x50x512 .f32) (h c : FVec Ideal S32x512 .f32) (tok : IVec S32 32) (tab : FVec Ideal S100000x256 .f32)
    (Wx : FVec Ideal S768x2048 .f32) (Wh : FVec Ideal S512x2048 .f32) (b : FVec Ideal S2048 .f32) : FVec Ideal S32x512 .f32 :=
  cellOf (stepGates E h tok tab Wx Wh b) c

/-- A step's new hidden rows. -/
def stepHidden (E : FVec Ideal S32x50x512 .f32) (h c : FVec Ideal S32x512 .f32) (tok : IVec S32 32) (tab : FVec Ideal S100000x256 .f32)
    (Wx : FVec Ideal S768x2048 .f32) (Wh : FVec Ideal S512x2048 .f32) (b : FVec Ideal S2048 .f32) : FVec Ideal S32x512 .f32 :=
  hiddenOf (stepGates E h tok tab Wx Wh b) (stepCell E h c tok tab Wx Wh b)

/-- The logits of hidden rows. -/
def rlogits (H : FVec Ideal S32x512 .f32) (W : FVec Ideal S512x100000 .f32) (b : FVec Ideal S100000 .f32) : FVec Ideal S32x100000 .f32 :=
  addf (Host.dotGeneral dot_S32x512_S512x100000_S32x100000_1_0_0_1_n_n none H W)
    (broadcastInDim S32x100000 ![0, 1] bcast_S1x100000_S32x100000_0_1 (broadcastInDim S1x100000 ![1] bcast_S100000_S1x100000_1 b))

/-- The ten greatest of each row of logits, and their columns. -/
def topOf (L : FVec Ideal S32x100000 .f32) : FVec Ideal S32x10 .f32 × IVec S32x10 32 :=
  Host.topK S32x10 1 (FloatOps.cmpfTotal .gt) L sliceFits_S32x100000_S32x10

/-- Ten lanes padded to sixteen. -/
def padVals (x : FVec Ideal S32x10 .f32) : FVec Ideal S32x16 .f32 :=
  pad S32x16 ![0, 0] ![0, 6] ![0, 0] x (constant S_ .f32 0xFF800000#32) pads_S32x10_S32x16_000_060 h_S_
def padInds (x : IVec S32x10 32) : IVec S32x16 32 :=
  pad S32x16 ![0, 0] ![0, 6] ![0, 0] x (constantI S_ 32 2147483647#32) pads_S32x10_S32x16_000_060 h_S_

/-- The ten greatest of each row of logits, and their columns, in lanes 0..9 of sixteen. -/
def valsOf (L : FVec Ideal S32x100000 .f32) : FVec Ideal S32x16 .f32 := padVals (topOf L).1
def indsOf (L : FVec Ideal S32x100000 .f32) : IVec S32x16 32 := padInds (topOf L).2

/-- The lane of each row's greatest, the first where several are. -/
def lane (x : FVec Ideal S32x10 .f32) : IVec S32x1 32 :=
  broadcastInDim S32x1 ![0] bcast_S32_S32x1_0 fun j =>
    (Host.argReduce reducer_argmax_f32_i32 x (iotaInDim S32x10 32 1) (constant S_ .f32 0xFF800000#32) (constantI S_ 32 0#32) reducesTo_S32x10_S32_d1 h_S_ j).2

/-- A lane's place among ten: a negative one counts from the end. -/
def spot (l : IVec S32x1 32) : IVec S32x1x1 32 :=
  shapeCast S32x1x1 (select (cmpi .slt l (broadcastInDim S32x1 ![] bcast_S_S32x1 (constantI S_ 32 0#32)))
    (addi l (broadcastInDim S32x1 ![] bcast_S_S32x1 (constantI S_ 32 10#32))) l) shapeCasts_S32x1_S32x1x1

/-- The entry of each row at a place, a place outside the ten giving the least word. -/
def taken (x : IVec S32x10 32) (p : IVec S32x1x1 32) : IVec S32x1 32 :=
  select (Host.reduce IntOp.andi
      (andi (cmpi .sge p (broadcastInDim S32x1x1 ![] bcast_S_S32x1x1 (constantI S_ 32 0#32)))
        (cmpi .sle p (broadcastInDim S32x1x1 ![0, 1, 2] bcast_S1x1x1_S32x1x1_0_1_2 (broadcastInDim S1x1x1 ![2] bcast_S1_S1x1x1_2 (constantI S1 32 9#32)))))
      (constantI S_ 1 1#1) reducesTo_S32x1x1_S32x1_d2 h_S_)
    (Host.gather gather_S32x10_S32x1x1_S32x1_n_1_0_0_1_2_11 x p)
    (broadcastInDim S32x1 ![] bcast_S_S32x1 (constantI S_ 32 2147483648#32))

/-- The next tokens: the column where the noise and the value together are greatest. -/
def nextOf (noise vals : FVec Ideal S32x10 .f32) (inds : IVec S32x10 32) : IVec S32 32 :=
  shapeCast S32 (taken inds (spot (lane (addf noise vals)))) shapeCasts_S32x1_S32

theorem nextOf_comm (noise vals : FVec Ideal S32x10 .f32) (inds : IVec S32x10 32) : nextOf vals noise inds = nextOf noise vals inds := by
  have h : addf vals noise = addf noise vals := funext fun i => add_comm (vals i) (noise i)
  unfold nextOf
  rw [h]

/-- The precondition, by the step's hidden rows. -/
theorem pre_eq (E : FVec Ideal S32x50x512 .f32) (h c : FVec Ideal S32x512 .f32) (tok : IVec S32 32) (tab : FVec Ideal S100000x256 .f32)
    (Wx : FVec Ideal S768x2048 .f32) (Wh : FVec Ideal S512x2048 .f32) (b : FVec Ideal S2048 .f32)
    (W : FVec Ideal S512x100000 .f32) (bo : FVec Ideal S100000 .f32) (noise : FVec Ideal S32x10 .f32) :
    Cert.Pre_finite_logits.fn (F := Ideal) E h c tok tab Wx Wh b W bo noise =
      Host.reduce IntOp.andi (cmpf .ogt (rlogits (stepHidden E h c tok tab Wx Wh b) W bo)
        (broadcastInDim S32x100000 ![] Cert.Pre_finite_logits.Gen.bcast_S_S32x100000 (constant S_ .f32 0xFF800000#32)))
        (constantI S_ 1 1#1) Cert.Pre_finite_logits.Gen.reducesTo_S32x100000_S_d0_1 Cert.Pre_finite_logits.Gen.h_S_ := by
  unfold Cert.Pre_finite_logits.fn Cert.Pre_finite_logits.fn_part1 Cert.Pre_finite_logits.fn_part2 Cert.Pre_finite_logits.fn_take Cert.Pre_finite_logits.fn_where
  rfl

end Cert.ReferenceIdeal.Hand

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

/-- The bias the projection call finds: the launched one, as a row. -/
theorem V_bias (c : Dev nD) : V m c main_v0 = shapeCast S1x100000 (m ((c.tc : Thread nD τ).loc main_arg9)) shapeCasts_S100000_S1x100000 := by
  show after (List.flatten [hostOps0, hostOps0_1, hostOps0_2]) (fun b => m (c, b)) main_v0 = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp
  rfl

theorem beside_eq : (fun a b => concatenate S32x768 1 [⟨S32x256, a⟩, ⟨S32x512, b⟩] concatenates_S32x256_S32x512_S32x768_d1 :
    FVec Ideal S32x256 .f32 → FVec Ideal S32x512 .f32 → FVec Ideal S32x768 .f32) = Cert.ReferenceIdeal.Hand.beside := rfl

/-- The cell and the hidden rows the projection call finds. -/
theorem V_cell (c : Dev nD) : V m c main_v47 =
    Cert.ReferenceIdeal.Hand.stepCell (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  show after (List.flatten [hostOps0, hostOps0_1, hostOps0_2]) (fun b => m (c, b)) main_v47 = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  rw [beside_eq]
  after_results_simp
  rfl

theorem V_hidden (c : Dev nD) : V m c main_v49 =
    Cert.ReferenceIdeal.Hand.stepHidden (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  show after (List.flatten [hostOps0, hostOps0_1, hostOps0_2]) (fun b => m (c, b)) main_v49 = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  rw [beside_eq]
  after_results_simp
  rfl

end Cert.KernelIdeal.Hand

end
-- ==== Proof.ProjVal.lean ====
/-
  The projection call's block values over the extended reals: the logits by rows and columns, and the block a point
  selects from, its columns past the vocabulary at the bottom element.
-/
module

public import proofs.«01_k».proof.Proof.ProjBody
public import proofs.«01_k».proof.Proof.ProjHost
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The new hidden rows the call finds, and the launched matrix and bias of the projection. -/
def Hd (c : Dev nD) : S32x512.Idx → EReal := V m c main_v49
def Wt (c : Dev nD) : S512x100000.Idx → EReal := m ((c.tc : Thread nD τ).loc main_arg8)
def Bs (c : Dev nD) : S100000.Idx → EReal := m ((c.tc : Thread nD τ).loc main_arg9)

/-- The logit of row `r` at column `v`: the product's entry and the bias. -/
def lg (c : Dev nD) (r : Fin 32) (v : Fin 100000) : EReal :=
  (∑ k : Fin 512, Hd m c (ix2 r k) * Wt m c (ix2 k v)) + Bs m c (ix1 v)

/-- A block's product and bias at an index. -/
theorem pay3_apply (x1 : FVec Ideal S32x512 .f32) (x2 : FVec Ideal S512x4096 .f32) (x3 : FVec Ideal S1x4096 .f32) (r : Fin 32) (j : Fin 4096) :
    k0_pay3 x1 x2 x3 (ix2 r j) = (∑ k : Fin 512, (x1 (ix2 r k) : EReal) * x2 (ix2 k j)) + x3 (ix2 0 j) := by
  pointwise [k0_pay3]

theorem condA_iff : ∀ t : Fin grid0.N, condA (grid0.coords t) ↔ t.val = 0 := by decide +kernel
theorem cond2_iff : ∀ t : Fin grid0.N, k0_cond2 (grid0.coords t) = 1#1 ↔ t.val = 24 := by decide +kernel

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![0, t.val] := by decide +kernel

/-- Which indices of a block the clipped windows move: the columns inside the array. -/
theorem xs1 : ∀ t : Fin grid0.N, win0_1.xsize (grid0.coords t) 0 = 512 ∧ win0_1.xsize (grid0.coords t) 1 = min 4096 (100000 - t.val * 4096) := by decide +kernel
theorem xs2 : ∀ t : Fin grid0.N, win0_2.xsize (grid0.coords t) 0 = 1 ∧ win0_2.xsize (grid0.coords t) 1 = min 4096 (100000 - t.val * 4096) := by decide +kernel
theorem xs3 : ∀ t : Fin grid0.N, win0_3.xsize (grid0.coords t) 0 = 32 ∧ win0_3.xsize (grid0.coords t) 1 = min 4096 (100000 - t.val * 4096) := by decide +kernel

theorem moved1 (t : Fin grid0.N) (k : Fin 512) (j : Fin 4096) (h : t.val * 4096 + j.val < 100000) :
    win0_1.moved (grid0.coords t) (ix2 k j) = true := by
  rw [Pipeline.Window.moved_iff]
  intro a
  match a with
  | ⟨0, _⟩ => exact lt_of_lt_of_eq k.isLt (xs1 t).1.symm
  | ⟨1, _⟩ => refine lt_of_lt_of_eq ?_ (xs1 t).2.symm; show j.val < _; omega
theorem moved2 (t : Fin grid0.N) (k : Fin 1) (j : Fin 4096) (h : t.val * 4096 + j.val < 100000) :
    win0_2.moved (grid0.coords t) (ix2 k j) = true := by
  rw [Pipeline.Window.moved_iff]
  intro a
  match a with
  | ⟨0, _⟩ => exact lt_of_lt_of_eq k.isLt (xs2 t).1.symm
  | ⟨1, _⟩ => refine lt_of_lt_of_eq ?_ (xs2 t).2.symm; show j.val < _; omega

/-- Window 0's block is the whole array of hidden rows. -/
theorem w0_apply (c : Dev nD) (t : Fin cfg0.N) (r : Fin 32) (k : Fin 512) : iblk m c 0 t (ix2 r k) = Hd m c (ix2 r k) := by
  unfold Hd
  blk_ext [iblk, idx0 t]

/-- Window 1's block at a column inside the array. -/
theorem w1_apply (c : Dev nD) (t : Fin cfg0.N) (d) (k : Fin 512) (j : Fin 4096) (h : t.val * 4096 + j.val < 100000) :
    win0_1.fill (grid0.coords t) d (iblk m c 1 t) (ix2 k j) = Wt m c (ix2 k ⟨t.val * 4096 + j.val, h⟩) := by
  unfold Pipeline.Window.fill Wt
  rw [dif_pos (moved1 t k j h), ← V_main_arg8 m c]
  blk_ext [iblk, idx1 t]

/-- A row of the bias's values is the bias. -/
theorem row_bias (b : S100000.Idx → EReal) (k : Fin 1) (v : Fin 100000) : shapeCast S1x100000 b shapeCasts_S100000_S1x100000 (ix2 k v) = b (ix1 v) := by
  pointwise
  blk_ext

theorem found_bias (c : Dev nD) (k : Fin 1) (v : Fin 100000) : (V m c main_v0 : S1x100000.Idx → EReal) (ix2 k v) = Bs m c (ix1 v) :=
  (congrFun (V_bias m c) (ix2 k v)).trans (row_bias (Bs m c) k v)

/-- Window 2's block at a column inside the array. -/
theorem w2_apply (c : Dev nD) (t : Fin cfg0.N) (d) (k : Fin 1) (j : Fin 4096) (h : t.val * 4096 + j.val < 100000) :
    win0_2.fill (grid0.coords t) d (iblk m c 2 t) (ix2 k j) = Bs m c (ix1 ⟨t.val * 4096 + j.val, h⟩) := by
  unfold Pipeline.Window.fill
  rw [dif_pos (moved2 t k j h), ← found_bias m c k]
  blk_ext [iblk, idx2 t]

/-- The block of logits at a column inside the array, whatever lies past the array's end. -/
theorem pay3_block (c : Dev nD) (t : Fin cfg0.N) (d1 d2) (r : Fin 32) (j : Fin 4096) (h : t.val * 4096 + j.val < 100000) :
    k0_pay3 (F := Ideal) (iblk m c 0 t) (win0_1.fill (grid0.coords t) d1 (iblk m c 1 t)) (win0_2.fill (grid0.coords t) d2 (iblk m c 2 t)) (ix2 r j)
      = lg m c r ⟨t.val * 4096 + j.val, h⟩ := by
  rw [pay3_apply]; unfold lg
  rw [w2_apply m c t d2 0 j h]
  refine congrArg (· + _) (Finset.sum_congr rfl fun k _ => ?_)
  rw [w0_apply m c t r k, w1_apply m c t d1 k j h]

/-- The block a point selects from: the logits, the columns past the vocabulary at the bottom. -/
def msk (c : Dev nD) (t : Fin cfg0.N) : FVec Ideal S32x4096 .f32 := fun j =>
  if h : t.val * 4096 + (j 1).val < 100000 then lg m c (j 0) ⟨t.val * 4096 + (j 1).val, h⟩ else (⊥ : EReal)

/-- The column words of a block. -/
theorem pay4_apply (t : Fin cfg0.N) (r : Fin 32) (j : Fin 4096) : k0_pay4 (grid0.coords t) (ix2 r j) = BitVec.ofNat 32 (t.val * 4096 + j.val) := by
  have e : ((grid0.coords t) 0).val = t.val := by revert t; decide +kernel
  pointwise [k0_pay4]
  rw [e]
  refine BitVec.eq_of_toNat_eq ?_
  simp only [IntOp.addi, IntOp.muli, Scalar.muli, BitVec.toNat_add, BitVec.toNat_mul, BitVec.toNat_ofNat]
  omega

/-- The mask's value. -/
theorem mask_eq : Named.named (F := Ideal) κ "mask" (φ := .f32) 0xF149F2CA#32 = (⊥ : EReal) :=
  IdealRules.named_const.ideal_named_scalar _ _ _ _ rfl

theorem pay5_eq (c : Dev nD) (t : Fin cfg0.N) (d1 d2) :
    k0_pay5 (F := Ideal) (grid0.coords t) (iblk m c 0 t) (win0_1.fill (grid0.coords t) d1 (iblk m c 1 t)) (win0_2.fill (grid0.coords t) d2 (iblk m c 2 t))
      = msk m c t := by
  funext j
  idx_vars j
  pointwise [k0_pay5, msk]
  rw [pay4_apply]
  have ht : t.val < 25 := lt_of_lt_of_eq t.isLt N_0
  by_cases h : t.val * 4096 + j1.val < 100000
  · rw [dif_pos h, WordCmp.cmpi_slt_ofNat (by omega) (by norm_num), decide_eq_true h, pay3_block m c t d1 d2 j0 j1 h]; rfl
  · rw [dif_neg h, WordCmp.cmpi_slt_ofNat (by omega) (by norm_num), decide_eq_false h]; exact mask_eq

end Cert.KernelIdeal.Hand

end
-- ==== Proof.ProjRun.lean ====
/-
  The projection call's run over the extended reals: the logits' array, and the two lists of ten as the last point's rounds
  leave them, with the lists carried in scratch from point to point.
-/
module

public import proofs.«01_k».proof.Proof.ProjVal
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

instance : ∀ e, Nonempty (Elt Ideal e) := inferInstance

/-- One point's ten rounds on the list carried to it. -/
def point (c : Dev nD) (t : Fin cfg0.N) (yv : FVec Ideal S32x16 .f32) (yi : IVec S32x16 32) : St Ideal :=
  rounds (k0_pay4 (grid0.coords t)) yi ⟨msk m c t, yv, k0_pay6, k0_pay7⟩ 10

/-- The list carried to point `n`. -/
def carry (c : Dev nD) : ℕ → FVec Ideal S32x16 .f32 × IVec S32x16 32
  | 0 => (k0_pay1, k0_pay2)
  | n + 1 => if h : n < cfg0.N then ((point m c ⟨n, h⟩ (carry c n).1 (carry c n).2).ov, (point m c ⟨n, h⟩ (carry c n).1 (carry c n).2).oi)
      else carry c n

theorem carry_succ (c : Dev nD) (t : Fin cfg0.N) :
    carry m c (t.val + 1) = ((point m c t (carry m c t.val).1 (carry m c t.val).2).ov, (point m c t (carry m c t.val).1 (carry m c t.val).2).oi) := by
  rw [carry, dif_pos t.isLt]

/-- The rounds of the body at a point are that point's, whatever lies past the arrays' end. -/
theorem done_eq (c : Dev nD) (t : Fin cfg0.N) (d1 d2) (yv : FVec Ideal S32x16 .f32) (yi : IVec S32x16 32)
    (h : t.val = 0 ∨ (yv = (carry m c t.val).1 ∧ yi = (carry m c t.val).2)) :
    done (F := Ideal) (grid0.coords t) (iblk m c 0 t) (win0_1.fill (grid0.coords t) d1 (iblk m c 1 t))
        (win0_2.fill (grid0.coords t) d2 (iblk m c 2 t)) (inV (grid0.coords t) yv) (inI (grid0.coords t) yi)
      = point m c t (carry m c t.val).1 (carry m c t.val).2 := by
  unfold done start point
  rw [pay5_eq]
  by_cases h0 : t.val = 0
  · rw [show inV (grid0.coords t) yv = k0_pay1 from if_pos ((condA_iff t).mpr h0),
      show inI (grid0.coords t) yi = k0_pay2 from if_pos ((condA_iff t).mpr h0), h0]; rfl
  · obtain ⟨rfl, rfl⟩ := h.resolve_left h0
    rw [show inV (grid0.coords t) (carry m c t.val).1 = (carry m c t.val).1 from if_neg (fun h => h0 ((condA_iff t).mp h)),
      show inI (grid0.coords t) (carry m c t.val).2 = (carry m c t.val).2 from if_neg (fun h => h0 ((condA_iff t).mp h))]

/-- The scratch before point `n`: the list carried to it (at the first point, anything). -/
def scr (c : Dev nD) (n : ℕ) : sProp 𝕄 :=
  iprop(∃ yv : FVec Ideal S32x16 .f32, ∃ yi : IVec S32x16 32, ⌜n = 0 ∨ (yv = (carry m c n).1 ∧ yi = (carry m c n).2)⌝
    ∗ owns (c : Thread nD τ) sv fullShare yv ∗ owns (Val := Elt Ideal) (c : Thread nD τ) si fullShare yi ∗ (∃ r, prngReg c r))

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => msk m c t
    | ⟨4, _⟩ => (carry m c (t.val + 1)).1
    | ⟨5, _⟩ => (carry m c (t.val + 1)).2
  Φ t := scr m c t.val
  q _ := fullShare
  owed _ := 0

theorem dats_A (c : Dev nD) (w : Fin cfg0.W) : (dats m 0 c).A w = V m c (Pipeline.arrRef spec0 w) := by unfold dats; rfl
theorem dats_after0 (c : Dev nD) (t : Fin cfg0.N) : (dats m 0 c).after 0 t = iblk m c 0 t := by unfold dats; rfl

theorem before_0 (c : Dev nD) (t : Fin cfg0.N) (d) : (dats m 0 c).before 0 t d = iblk m c 0 t :=
  before0_0_of m (dats m 0 c) (dats_A m c 0) (dats_after0 m c) t d
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl

theorem msk_in (c : Dev nD) (t : Fin cfg0.N) (r : Fin 32) (j : Fin 4096) (h : t.val * 4096 + j.val < 100000) :
    msk m c t (ix2 r j) = lg m c r ⟨t.val * 4096 + j.val, h⟩ := dif_pos h

/-- The logits a point leaves, on the columns inside the array. -/
theorem cut_logits (c : Dev nD) (t : Fin cfg0.N) (d1 d2) :
    win0_3.cut (grid0.coords t) (k0_pay3 (F := Ideal) (iblk m c 0 t) (win0_1.fill (grid0.coords t) d1 (iblk m c 1 t)) (win0_2.fill (grid0.coords t) d2 (iblk m c 2 t)))
      = win0_3.cut (grid0.coords t) (msk m c t) := by
  funext j
  have hj : (j 1).val < min 4096 (100000 - t.val * 4096) := lt_of_lt_of_eq (j 1).isLt (xs3 t).2
  have hr : (j 0).val < 32 := lt_of_lt_of_eq (j 0).isLt (xs3 t).1
  have e : win0_3.xinj (grid0.coords t) j = ix2 (⟨(j 0).val, hr⟩ : Fin 32) (⟨(j 1).val, by omega⟩ : Fin 4096) := by
    funext a; match a with | ⟨0, _⟩ => rfl | ⟨1, _⟩ => rfl
  show k0_pay3 (F := Ideal) _ _ _ (win0_3.xinj (grid0.coords t) j) = msk m c t (win0_3.xinj (grid0.coords t) j)
  rw [e, pay3_block m c t d1 d2 _ _ (show t.val * 4096 + (j 1).val < 100000 by omega)]
  exact (msk_in m c t _ _ _).symm

theorem defs₀_row (t : Fin cfg0.N) : defs₀ (F := Ideal) .tc cfg0.body (cfg0.bodyArgs t (cfg0.slots t)) = bodyAt0 t := by
  unfold defs₀; rw [Defs.onTc_tc]

theorem leave_3 (c : Dev nD) (t : Fin cfg0.N) (X : FVec Ideal S32x4096 .f32)
    (h : win0_3.cut (grid0.coords t) X = win0_3.cut (grid0.coords t) (msk m c t)) :
    (owns (c : Thread nD τ) (st0_3 t) fullShare X : sProp 𝕄) ⊢ iprop(∃ d, owns (c : Thread nD τ) ((cfg0.win 3).stage (cfg0.slots t 3)) fullShare
      ((cfg0.win 3).fill (cfg0.grid.coords t) d ((cfg0.win 3).cut (cfg0.grid.coords t) ((dats m 0 c).after 3 t)))) := by
  have ea : (dats m 0 c).after 3 t = msk m c t := rfl
  rw [ea]
  have e : (cfg0.win 3).fill (cfg0.grid.coords t) X ((cfg0.win 3).cut (cfg0.grid.coords t) (msk m c t)) = X :=
    (cfg0.win 3).fill_congr_cut (cfg0.grid.coords t) h
  iintro H; iexists X
  rw [e]; try iexact H

theorem leave_1 (c : Dev nD) (t : Fin cfg0.N) (d) :
    (owns (c : Thread nD τ) (st0_1 t) fullShare (win0_1.fill (grid0.coords t) d (iblk m c 1 t)) : sProp 𝕄)
      ⊢ iprop(∃ d, owns (c : Thread nD τ) ((cfg0.win 1).stage (cfg0.slots t 1)) fullShare
      ((cfg0.win 1).fill (cfg0.grid.coords t) d ((cfg0.win 1).cut (cfg0.grid.coords t) ((dats m 0 c).after 1 t)))) := by
  iintro H; iexists d
  change _ ⊢ owns (c : Thread nD τ) (st0_1 t) fullShare (win0_1.fill (grid0.coords t) d (win0_1.cut (grid0.coords t) (win0_1.fill (grid0.coords t) (fun _ => (0 : EReal)) (iblk m c 1 t))))
  rw [win0_1.cut_fill]; try iexact H

theorem leave_2 (c : Dev nD) (t : Fin cfg0.N) (d) :
    (owns (c : Thread nD τ) (st0_2 t) fullShare (win0_2.fill (grid0.coords t) d (iblk m c 2 t)) : sProp 𝕄)
      ⊢ iprop(∃ d, owns (c : Thread nD τ) ((cfg0.win 2).stage (cfg0.slots t 2)) fullShare
      ((cfg0.win 2).fill (cfg0.grid.coords t) d ((cfg0.win 2).cut (cfg0.grid.coords t) ((dats m 0 c).after 2 t)))) := by
  iintro H; iexists d
  change _ ⊢ owns (c : Thread nD τ) (st0_2 t) fullShare (win0_2.fill (grid0.coords t) d (win0_2.cut (grid0.coords t) (win0_2.fill (grid0.coords t) (fun _ => (0 : EReal)) (iblk m c 2 t))))
  rw [win0_2.cut_fill]; try iexact H

theorem body_obligation (c : Dev nD) : BodyObligationLoose (dats m 0 c) (defs₀ (F := Ideal)) Variants.none () Set.univ := fun t => by
  rw [bigSep_W0, bigSep_W0, defs₀_row]
  simp only
  rw [show (dats m 0 c).Φ t.succ = scr m c (t.val + 1) from rfl, show (dats m 0 c).Φ t.castSucc = scr m c t.val from rfl,
    show (dats m 0 c).owesAt () t.succ = (dats m 0 c).owesAt () t.castSucc from rfl]
  unfold scr
  iintro ⟨⟨%yv, %yi, %hy, Hv, Hi, Hg⟩, HO, ⟨%d0, H0⟩, ⟨%d1, H1⟩, ⟨%d2, H2⟩, ⟨%d3, H3⟩, ⟨%d4, H4⟩, ⟨%d5, H5⟩⟩
  rw [before_0 m c t d0, before_1 m c t d1, before_2 m c t d2]
  have hd := done_eq m c t d1 d2 yv yi hy
  have hs := carry_succ m c t
  iapply (kernelRun (F := Ideal) c (grid0.coords t) (st0_0 t) _ (st0_1 t) _ (st0_2 t) _ (st0_3 t) _ (st0_4 t) _ (st0_5 t) _ (iblk m c 0 t)
    (win0_1.fill (grid0.coords t) d1 (iblk m c 1 t)) (win0_2.fill (grid0.coords t) d2 (iblk m c 2 t)) ((dats m 0 c).before 3 t d3)
    ((dats m 0 c).before 4 t d4) ((dats m 0 c).before 5 t d5) yv yi _)
  isplitl [H0]; · iexact H0
  isplitl [H1]; · iexact H1
  isplitl [H2]; · iexact H2
  isplitl [H3]; · iexact H3
  isplitl [H4]; · iexact H4
  isplitl [H5]; · iexact H5
  isplitl [Hv]; · iexact Hv
  isplitl [Hi]; · iexact Hi
  rw [hd]
  have hX := cut_logits m c t d1 d2
  generalize k0_pay3 (F := Ideal) (iblk m c 0 t) (win0_1.fill (grid0.coords t) d1 (iblk m c 1 t)) (win0_2.fill (grid0.coords t) d2 (iblk m c 2 t)) = X at hX ⊢
  iintro ⟨H0, H1, H2, H3, H4, H5, Hv, Hi⟩
  isplitl [Hv Hi Hg]
  · iexists _, _
    isplitr; swap
    · isplitl [Hv]; · iexact Hv
      isplitl [Hi]; · iexact Hi
      iexact Hg
    ipureintro; right; rw [hs]; exact ⟨rfl, rfl⟩
  isplitl [HO]; · iexact HO
  isplitl [H0]; · iexact H0
  isplitl [H1]; · iapply (leave_1 m c t d1); iexact H1
  isplitl [H2]; · iapply (leave_2 m c t d2); iexact H2
  isplitl [H3]; · iapply (leave_3 m c t X hX); iexact H3
  by_cases hB : k0_cond2 (grid0.coords t) = 1#1
  · have h4 : idle0 4 (grid0.coords t) = false := by show (!(k0_cond2 (grid0.coords t) == 1#1)) = false; rw [hB]; rfl
    have h5 : idle0 5 (grid0.coords t) = false := by show (!(k0_cond2 (grid0.coords t) == 1#1)) = false; rw [hB]; rfl
    simp only [h4, h5, if_pos hB]
    isplitl [H4]
    · rw [show (dats m 0 c).after 4 t = (point m c t (carry m c t.val).1 (carry m c t.val).2).ov from congrArg Prod.fst hs]
      iexact H4
    · rw [show (dats m 0 c).after 5 t = (point m c t (carry m c t.val).1 (carry m c t.val).2).oi from congrArg Prod.snd hs]
      iexact H5
  · have h4 : idle0 4 (grid0.coords t) = true := by
      show (!(k0_cond2 (grid0.coords t) == 1#1)) = true; rw [beq_false_of_ne hB]; rfl
    have h5 : idle0 5 (grid0.coords t) = true := by
      show (!(k0_cond2 (grid0.coords t) == 1#1)) = true; rw [beq_false_of_ne hB]; rfl
    have ht : t.val % 25 ≠ 24 := fun h => hB ((cond2_iff t).mpr (by have : t.val < 25 := lt_of_lt_of_eq t.isLt N_0; omega))
    have f4 : (win0 4).flush t = false := Bool.eq_false_iff.mpr fun h => ht ((flush0_4 t).mp h)
    have f5 : (win0 5).flush t = false := Bool.eq_false_iff.mpr fun h => ht ((flush0_5 t).mp h)
    simp only [h4, h5, f4, f5, if_neg hB]
    isplitl [H4]
    · iexists d4; iexact H4
    · iexists d5; iexact H5

/-- The class invariant, conjunct by conjunct: the two scratch buffers at some contents, the generator register. -/
theorem PhiA_eq (c : Dev nD) :
    (Pipeline.ΦA (U := UR sig nD τ) (Val := Elt Ideal) spec0 c : sProp 𝕄)
      = iprop(((∃ d, owns (Val := Elt Ideal) (c : Thread nD τ) sv fullShare d) ∗ (∃ d, owns (Val := Elt Ideal) (c : Thread nD τ) si fullShare d)) ∗ (∃ r, prngReg c r)) := by
  unfold Pipeline.ΦA; rw [scopedRest0_eq]; simp only [sv, si, owns_whole]; try rfl

/-- Before the first point the scratch holds anything. -/
theorem enter (c : Dev nD) : Pipeline.ΦA (U := UR sig nD τ) (Val := Elt Ideal) (cfgs 0).spec c ⊢ (dats m 0 c).Φ 0 := by
  refine (Entails.of_eq (PhiA_eq c)).trans ?_
  show _ ⊢ scr m c 0
  unfold scr
  iintro ⟨⟨⟨%yv, Hv⟩, ⟨%yi, Hi⟩⟩, Hg⟩
  iexists yv, yi
  isplitr; · ipureintro; left; rfl
  isplitl [Hv]; · iexact Hv
  isplitl [Hi]; · iexact Hi
  iexact Hg

/-- After the last point the scratch is forgotten. -/
theorem leave (c : Dev nD) : (dats m 0 c).Φ (Fin.last (cfgs 0).N) ⊢ Pipeline.ΦA (U := UR sig nD τ) (Val := Elt Ideal) (cfgs 0).spec c := by
  refine BIBase.Entails.trans ?_ (Entails.of_eq (PhiA_eq c).symm)
  show scr m c _ ⊢ _
  unfold scr
  iintro ⟨%yv, %yi, -, Hv, Hi, Hg⟩
  isplitl [Hv Hi]
  · isplitl [Hv]; · iexists yv; iexact Hv
    iexists yi; iexact Hi
  iexact Hg

set_option backward.isDefEq.respectTransparency.types false in
/-- Every fair run of @main ends, every array as the data above compute it and every other buffer as the operations after
    the call leave it, every counter at zero. -/
theorem run_main : θ_run defs (onTc (τ := τ) (main (F := Ideal))) (s₀ m ρ)
    (fun r => Pipeline.FramePost cfgs (dats m) 0 (Pipeline.afterTail₀ cfgs (dats m) 0 (V0 m) [hostOps1, hostOps1_1, hostOps1_2, hostOps1_3, hostOps1_4]) r
      ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps) (hmain := hmain m Variants.none) (hA := fun _ _ => rfl)
    (hin := enter m) (hout := leave m)

/-- The logits' array. -/
def logits (c : Dev nD) : S32x100000.Idx → EReal := fun j => lg m c (j 0) (j 1)

theorem place_3 (t : Fin grid0.N) (y : (win0_3.xblock (grid0.coords t)).Idx) (r : Fin 32) (j : Fin 4096) (hr : r.val = (y 0).val) (hj : j.val = (y 1).val)
    (h : t.val * 4096 + j.val < 100000) :
    win0_3.xinj (grid0.coords t) y = ix2 r j ∧ (win0_3.blk t).view.emb y = ix2 r ⟨t.val * 4096 + j.val, h⟩ := by
  constructor
  · funext a
    match a with
    | ⟨0, _⟩ => exact Fin.ext hr.symm
    | ⟨1, _⟩ => exact Fin.ext hj.symm
  · blk_ext [idx3 t]

theorem flushed_3 (c : Dev nD) (t : Fin grid0.N) (y : (win0_3.xblock (grid0.coords t)).Idx) :
    msk m c t (win0_3.xinj (grid0.coords t) y) = logits m c ((win0_3.blk t).view.emb y) := by
  have hj : (y 1).val < min 4096 (100000 - t.val * 4096) := lt_of_lt_of_eq (y 1).isLt (xs3 t).2
  have hr : (y 0).val < 32 := lt_of_lt_of_eq (y 0).isLt (xs3 t).1
  have hp := place_3 t y ⟨(y 0).val, hr⟩ ⟨(y 1).val, by omega⟩ rfl rfl (show t.val * 4096 + (y 1).val < 100000 by omega)
  rw [hp.1, hp.2, msk_in m c t _ _ (show t.val * 4096 + (y 1).val < 100000 by omega)]
  rfl

theorem arr_3 (c : Dev nD) : (dats m 0 c).arrAt 3 (cfgs 0).N = logits m c :=
  (dats m 0 c).arrAt_eq_of_covers 3 _ (by decide +kernel) fun t _ y => flushed_3 m c t y

theorem idx4 : ∀ t : Fin grid0.N, win0_4.index t = ![0, 0] := by decide +kernel
theorem idx5 : ∀ t : Fin grid0.N, win0_5.index t = ![0, 0] := by decide +kernel
theorem place_4 (t : Fin grid0.N) (y : (win0_4.xblock (grid0.coords t)).Idx) : win0_4.xinj (grid0.coords t) y = (win0_4.blk t).view.emb y := by
  blk_ext [idx4 t]
theorem place_5 (t : Fin grid0.N) (y : (win0_5.xblock (grid0.coords t)).Idx) : win0_5.xinj (grid0.coords t) y = (win0_5.blk t).view.emb y := by
  blk_ext [idx5 t]

theorem arr_4 (c : Dev nD) : (dats m 0 c).arrAt 4 (cfgs 0).N = (carry m c 25).1 := by
  refine (dats m 0 c).arrAt_eq_of_covers 4 _ (by decide +kernel) fun t hf y => ?_
  have ht : t.val = 24 := by have := (flush0_4 t).mp hf; have : t.val < 25 := lt_of_lt_of_eq t.isLt N_0; omega
  show (carry m c (t.val + 1)).1 _ = _
  rw [ht]
  exact congrArg (carry m c 25).1 (place_4 t y)

theorem arr_5 (c : Dev nD) : (dats m 0 c).arrAt 5 (cfgs 0).N = (carry m c 25).2 := by
  refine (dats m 0 c).arrAt_eq_of_covers 5 _ (by decide +kernel) fun t hf y => ?_
  have ht : t.val = 24 := by have := (flush0_5 t).mp hf; have : t.val < 25 := lt_of_lt_of_eq t.isLt N_0; omega
  show (carry m c (t.val + 1)).2 _ = _
  rw [ht]
  exact congrArg (carry m c 25).2 (place_5 t y)

/-- The inputs' arrays at the end are as the call found them. -/
theorem arr_0 (c : Dev nD) : (dats m 0 c).arrAt 0 (cfgs 0).N = V m c main_v49 := ((dats m 0 c).arrAt_in 0 rfl _).trans (dats_A m c 0)
theorem arr_1 (c : Dev nD) : (dats m 0 c).arrAt 1 (cfgs 0).N = m ((c.tc : Thread nD τ).loc main_arg8) :=
  (((dats m 0 c).arrAt_in 1 rfl _).trans (dats_A m c 1)).trans (V_main_arg8 m c)

/-- The cell is as the call found it: no operation after the call writes it. -/
theorem cell_end (c : Dev nD) :
    Pipeline.afterTail₀ cfgs (dats m) 0 (V0 m) [hostOps1, hostOps1_1, hostOps1_2, hostOps1_3, hostOps1_4] c main_v47 = V m c main_v47 := by
  unfold Pipeline.afterTail₀
  rw [StableHlo.after_of_forall_not_mem (b := Proc.devRef .tc main_v47) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, Finset.mem_singleton]
      repeat' apply And.intro
      all_goals exact StableHlo.devRef_ne_of_ne (by decide))),
    Pipeline.withArrays_of_ne _ c (V0 m c) _ main_v47 (by exact (by decide : ∀ w, Pipeline.arrRef spec0 w ≠ main_v47))]

/-- The first ten of sixteen lanes. -/
def tenVals (x : FVec Ideal S32x16 .f32) : FVec Ideal S32x10 .f32 := extractStridedSlice S32x10 ![0, 0] x slices_S32x16_S32x10_0_0
def tenInds (x : IVec S32x16 32) : IVec S32x10 32 := extractStridedSlice S32x10 ![0, 0] x slices_S32x16_S32x10_0_0

/-- The operations after the call leave the next tokens. -/
theorem next_after (X : Valuation τ sig (Elt Ideal)) :
    StableHlo.after (List.flatten [hostOps1, hostOps1_1, hostOps1_2, hostOps1_3, hostOps1_4]) X main_v57
      = Cert.ReferenceIdeal.Hand.nextOf (tenVals (X main_v50_1)) (X main_arg10) (tenInds (X main_v50_2)) := by
  simp only [hostOps1, hostOps1_1, hostOps1_2, hostOps1_3, hostOps1_4, List.flatten_cons, List.flatten_nil, List.append_nil, List.cons_append,
    List.nil_append, StableHlo.TRef.binary, StableHlo.TRef.nullary, StableHlo.TRef.ternary, StableHlo.TRef.unary, StableHlo.TRef.quaternary,
    StableHlo.TRef.reshape, StableHlo.TRef.toBuf, StableHlo.TRef.ofBuf, cast_eq]
  after_results_simp
  rfl

theorem next_end (c : Dev nD) :
    Pipeline.afterTail₀ cfgs (dats m) 0 (V0 m) [hostOps1, hostOps1_1, hostOps1_2, hostOps1_3, hostOps1_4] c main_v57
      = Cert.ReferenceIdeal.Hand.nextOf (tenVals (carry m c 25).1) (m ((c.tc : Thread nD τ).loc main_arg10)) (tenInds (carry m c 25).2) := by
  unfold Pipeline.afterTail₀
  have h1 := Pipeline.withArrays_arr (cfgs 0).spec (by decide) c (V0 m c) (fun w => (dats m 0 c).arrAt w (cfgs 0).N) 4
  have h2 := Pipeline.withArrays_arr (cfgs 0).spec (by decide) c (V0 m c) (fun w => (dats m 0 c).arrAt w (cfgs 0).N) 5
  have h3 := Pipeline.withArrays_of_ne (cfgs 0).spec c (V0 m c) (fun w => (dats m 0 c).arrAt w (cfgs 0).N) main_arg10
    (by exact (by decide : ∀ w, Pipeline.arrRef spec0 w ≠ main_arg10))
  refine (next_after _).trans ?_
  refine congr (congr (congrArg _ (congrArg tenVals (h1.trans (arr_4 m c)))) (h3.trans (V_main_arg10 m c))) (congrArg tenInds (h2.trans (arr_5 m c)))

set_option maxHeartbeats 1000000 in
/-- The step's run: the logits, the two lists, the new hidden rows and cell, the next tokens, the arguments as launched, every counter at zero. -/
theorem run :
    θ_run defs (onTc (τ := τ) (main (F := Ideal))) ⟨m, fun _ => 0, ρ⟩ (fun r => (∀ c : Dev nD,
      r.2.mem ((c.tc : Thread nD τ).loc main_v50_0) = logits m c
      ∧ r.2.mem ((c.tc : Thread nD τ).loc main_v50_1) = (carry m c 25).1
      ∧ r.2.mem ((c.tc : Thread nD τ).loc main_v50_2) = (carry m c 25).2
      ∧ r.2.mem ((c.tc : Thread nD τ).loc main_v49) = V m c main_v49
      ∧ r.2.mem ((c.tc : Thread nD τ).loc main_v47) = V m c main_v47
      ∧ r.2.mem ((c.tc : Thread nD τ).loc main_v57)
        = Cert.ReferenceIdeal.Hand.nextOf (tenVals (carry m c 25).1) (m ((c.tc : Thread nD τ).loc main_arg10)) (tenInds (carry m c 25).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).1 3).trans (arr_3 m c), ((h.1 c).1 4).trans (arr_4 m c), ((h.1 c).1 5).trans (arr_5 m c),
    ((h.1 c).1 0).trans (arr_0 m c),
    ((h.1 c).2 main_v47 (Pipeline.mem_restRefs_of main_v47 (by decide) (by decide))).trans (cell_end m c),
    ((h.1 c).2 main_v57 (Pipeline.mem_restRefs_of main_v57 (by decide) (by decide))).trans (next_end m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c),
    ((h.1 c).1 1).trans (arr_1 m c),
    ((h.1 c).2 main_arg9 (Pipeline.mem_restRefs_of main_arg9 (by decide) (by decide))).trans (W_main_arg9 m (dats m) c),
    ((h.1 c).2 main_arg10 (Pipeline.mem_restRefs_of main_arg10 (by decide) (by decide))).trans (W_main_arg10 m (dats m) c)⟩, h.2⟩) (run_main m ρ)

end Cert.KernelIdeal.Hand

end
-- ==== Proof.Pick.lean ====
/-
  Picking the greatest of a finite set of columns one after another, ties to the lower column: what the k-th pick is, that the picks are
  ordered, and that picking from some already picked columns together with new ones is picking from all of them.
-/
module

public import Mathlib.Data.Finset.Max
public import Mathlib.Data.Finset.Card
public import Mathlib.Data.Finset.Image
public import Mathlib.Order.Interval.Finset.Nat
public import Mathlib.Tactic.NormNum

@[expose] public section

noncomputable section

namespace Cert.Pick

variable {α : Type} [LinearOrder α] (x : ℕ → α)

/-- Column `i` goes before column `j`: the greater value, or the same value at a lower column. -/
def before (i j : ℕ) : Prop := x j < x i ∨ (x i = x j ∧ i < j)

theorem before_irrefl (i : ℕ) : ¬ before x i i := fun h => h.elim (lt_irrefl _) fun h => lt_irrefl _ h.2

theorem before_asymm {i j : ℕ} (h : before x i j) (h' : before x j i) : False := by
  rcases h with h | ⟨e, h⟩ <;> rcases h' with h' | ⟨e', h'⟩
  · exact lt_asymm h h'
  · exact (e' ▸ h).false
  · exact (e ▸ h').false
  · omega

theorem exists_best {T : Finset ℕ} (h : T.Nonempty) : ∃ b ∈ T, ∀ i ∈ T, i ≠ b → before x b i := by
  obtain ⟨a, ha, hmax⟩ := T.exists_max_image x h
  have hne : (T.filter fun i => x i = x a).Nonempty := ⟨a, Finset.mem_filter.mpr ⟨ha, rfl⟩⟩
  obtain ⟨b, hb, hmin⟩ := (T.filter fun i => x i = x a).exists_min_image id hne
  obtain ⟨hbT, hbv⟩ := Finset.mem_filter.mp hb
  refine ⟨b, hbT, fun i hi hib => ?_⟩
  rcases lt_or_eq_of_le (hmax i hi) with hlt | heq
  · exact .inl (hbv ▸ hlt)
  · exact .inr ⟨hbv.trans heq.symm, lt_of_le_of_ne (hmin i (Finset.mem_filter.mpr ⟨hi, heq⟩)) (Ne.symm hib)⟩

open Classical in
/-- The column of `T` before all the others. -/
def best (T : Finset ℕ) : ℕ := if h : T.Nonempty then (exists_best x h).choose else 0

theorem best_mem {T : Finset ℕ} (h : T.Nonempty) : best x T ∈ T := by
  rw [best, dif_pos h]; exact (exists_best x h).choose_spec.1

theorem best_before {T : Finset ℕ} {i : ℕ} (hi : i ∈ T) (hne : i ≠ best x T) : before x (best x T) i := by
  have h : T.Nonempty := ⟨i, hi⟩
  rw [best, dif_pos h] at hne ⊢
  exact (exists_best x h).choose_spec.2 i hi hne

theorem best_unique {T : Finset ℕ} {b : ℕ} (hb : b ∈ T) (h : ∀ i ∈ T, i ≠ b → before x b i) : best x T = b := by
  by_contra hne
  exact before_asymm x (h _ (best_mem x ⟨b, hb⟩) hne) (best_before x hb (Ne.symm hne))

/-- What is left of `S` after `k` picks. -/
def rem (S : Finset ℕ) : ℕ → Finset ℕ
  | 0 => S
  | k + 1 => (rem S k).erase (best x (rem S k))

/-- The `k`-th pick from `S`, counted from zero. -/
def pick (S : Finset ℕ) (k : ℕ) : ℕ := best x (rem x S k)

theorem rem_succ (S : Finset ℕ) (k : ℕ) : rem x S (k + 1) = (rem x S k).erase (pick x S k) := rfl

theorem rem_anti (S : Finset ℕ) {j k : ℕ} (h : j ≤ k) : rem x S k ⊆ rem x S j := by
  induction h with
  | refl => exact Finset.Subset.refl _
  | step _ ih => exact (Finset.erase_subset _ _).trans ih

theorem rem_subset (S : Finset ℕ) (k : ℕ) : rem x S k ⊆ S := rem_anti x S (Nat.zero_le k)

theorem card_rem (S : Finset ℕ) (k : ℕ) (h : k ≤ S.card) : (rem x S k).card = S.card - k := by
  induction k with
  | zero => rfl
  | succ k ih =>
    have e := ih (by omega)
    rw [rem_succ, pick, Finset.card_erase_of_mem (best_mem x (Finset.card_pos.mp (by omega))), e]; omega

theorem rem_nonempty (S : Finset ℕ) (k : ℕ) (h : k < S.card) : (rem x S k).Nonempty :=
  Finset.card_pos.mp (by rw [card_rem x S k h.le]; omega)

theorem pick_mem_rem (S : Finset ℕ) {k : ℕ} (h : k < S.card) : pick x S k ∈ rem x S k := best_mem x (rem_nonempty x S k h)

theorem pick_mem (S : Finset ℕ) {k : ℕ} (h : k < S.card) : pick x S k ∈ S := rem_subset x S k (pick_mem_rem x S h)

/-- An earlier pick goes before whatever is left later. -/
theorem before_of_mem (S : Finset ℕ) {j k i : ℕ} (h : j < k) (hi : i ∈ rem x S k) : before x (pick x S j) i := by
  have h1 := rem_anti x S (Nat.succ_le_of_lt h) hi
  rw [Nat.succ_eq_add_one, rem_succ, Finset.mem_erase] at h1
  exact best_before x h1.2 h1.1

theorem pick_before (S : Finset ℕ) {j k : ℕ} (h : j < k) (hk : k < S.card) : before x (pick x S j) (pick x S k) :=
  before_of_mem x S h (pick_mem_rem x S hk)

theorem pick_inj (S : Finset ℕ) {j k : ℕ} (hj : j < S.card) (hk : k < S.card) (e : pick x S j = pick x S k) : j = k := by
  rcases lt_trichotomy j k with h | h | h
  · exact (before_irrefl x _ (e ▸ pick_before x S h hk)).elim
  · exact h
  · exact (before_irrefl x _ (e ▸ pick_before x S h hj)).elim

/-- The first `k` picks. -/
def picks (S : Finset ℕ) (k : ℕ) : Finset ℕ := (Finset.range k).image (pick x S)

theorem rem_eq (S : Finset ℕ) (k : ℕ) : rem x S k = S \ picks x S k := by
  induction k with
  | zero => simp [rem, picks]
  | succ k ih =>
    rw [rem_succ, ih, picks, picks, Finset.range_add_one, Finset.image_insert]
    ext i; simp only [Finset.mem_erase, Finset.mem_sdiff, Finset.mem_insert]; tauto

theorem card_picks_le (S : Finset ℕ) (k : ℕ) : (picks x S k).card ≤ k := Finset.card_image_le.trans (Finset.card_range k).le

theorem card_picks (S : Finset ℕ) (k : ℕ) (h : k ≤ S.card) : (picks x S k).card = k := by
  rw [picks, Finset.card_image_of_injOn, Finset.card_range]
  intro i hi j hj e
  rw [Finset.mem_coe, Finset.mem_range] at hi hj
  exact pick_inj x S (by omega) (by omega) e

theorem picks_subset (S : Finset ℕ) (k : ℕ) (h : k ≤ S.card) : picks x S k ⊆ S := by
  intro i hi
  obtain ⟨j, hj, rfl⟩ := Finset.mem_image.mp hi
  exact pick_mem x S (by have := Finset.mem_range.mp hj; omega)

/-- Picking from the first `N` picks of `A` together with `D` is, for `N` picks, picking from `A` together with `D`. -/
theorem pick_merge (A D : Finset ℕ) (N : ℕ) (hN : N ≤ A.card) (k : ℕ) (hk : k < N) :
    pick x (picks x A N ∪ D) k = pick x (A ∪ D) k := by
  suffices h : ∀ n, n ≤ N → ∀ j, j < n → pick x (picks x A N ∪ D) j = pick x (A ∪ D) j from h (k + 1) hk k (by omega)
  intro n
  induction n with
  | zero => intro _ j hj; omega
  | succ n ih =>
    intro hn j hj
    rcases Nat.lt_succ_iff_lt_or_eq.mp hj with h | rfl
    · exact ih (by omega) j h
    have hI : picks x (picks x A N ∪ D) j = picks x (A ∪ D) j :=
      Finset.image_congr fun i hi => ih (by omega) i (by simpa using hi)
    have hsub : picks x A N ∪ D ⊆ A ∪ D := Finset.union_subset_union (picks_subset x A N hN) (Finset.Subset.refl _)
    have hcard : A.card ≤ (A ∪ D).card := Finset.card_le_card Finset.subset_union_left
    have hb : pick x (A ∪ D) j ∈ rem x (A ∪ D) j := pick_mem_rem x _ (by omega)
    refine best_unique x ?_ fun i hi hne => best_before x ?_ hne
    · rw [rem_eq, hI]
      have hb' := hb
      rw [rem_eq, Finset.mem_sdiff] at hb'
      refine Finset.mem_sdiff.mpr ⟨?_, hb'.2⟩
      by_contra hout
      rw [Finset.mem_union, not_or] at hout
      have hA : pick x (A ∪ D) j ∈ A := (Finset.mem_union.mp hb'.1).resolve_right hout.2
      have hr : pick x (A ∪ D) j ∈ rem x A N := by rw [rem_eq]; exact Finset.mem_sdiff.mpr ⟨hA, hout.1⟩
      obtain ⟨q, hq, hqn⟩ : ∃ q ∈ picks x A N, q ∉ picks x (A ∪ D) j := by
        by_contra hall
        push Not at hall
        have := Finset.card_le_card (show picks x A N ⊆ picks x (A ∪ D) j from hall)
        rw [card_picks x A N hN] at this
        have := card_picks_le x (A ∪ D) j
        omega
      have hqr : q ∈ rem x (A ∪ D) j := by
        rw [rem_eq]; exact Finset.mem_sdiff.mpr ⟨hsub (Finset.mem_union_left _ hq), hqn⟩
      have hqne : q ≠ best x (rem x (A ∪ D) j) := fun e => hout.1 (by rw [show pick x (A ∪ D) j = q from e.symm]; exact hq)
      obtain ⟨i, hi, rfl⟩ := Finset.mem_image.mp hq
      exact before_asymm x (best_before x hqr hqne) (before_of_mem x A (Finset.mem_range.mp hi) hr)
    · rw [rem_eq, hI] at hi
      rw [rem_eq]
      exact Finset.mem_sdiff.mpr ⟨hsub (Finset.mem_sdiff.mp hi).1, (Finset.mem_sdiff.mp hi).2⟩

end Cert.Pick

end
-- ==== Proof.PickRound.lean ====
/-
  One round of picking on values and column words: the greatest value over two families, the least column word that attains it, and what
  the two families show after that column is struck out.
-/
module

public import proofs.«01_k».proof.Proof.Pick
public import Idealize.ShloMosaic.PureOps
public import Idealize.ShloMosaic.PureOps.Ideal
public import Idealize.ShloMosaic.Lib.WordArith
public import Idealize.ShloMosaic.Lib.Pointwise

@[expose] public section

noncomputable section

namespace Cert.Pick

open Idealize.ShloMosaic Idealize.ShloMosaic.WordArith

/-- What a place holding column word `w` shows while `T` is left: the column's value, or the bottom. -/
def shown (x : ℕ → EReal) (T : Finset ℕ) (w : BitVec 32) : EReal := if w.toNat ∈ T then x w.toNat else ⊥

theorem shown_le (x : ℕ → EReal) (T : Finset ℕ) (w : BitVec 32) : shown x T w ≤ x (best x T) := by
  unfold shown
  split
  · next h =>
    by_cases e : w.toNat = best x T
    · rw [e]
    · rcases best_before x h e with h | h
      · exact h.le
      · exact h.1.ge
  · exact bot_le

theorem shown_best (x : ℕ → EReal) (T : Finset ℕ) (hT : T.Nonempty) (w : BitVec 32) (e : w.toNat = best x T) :
    shown x T w = x (best x T) := by
  unfold shown; rw [e, if_pos (best_mem x hT)]

variable {ι κ : Type} [Fintype ι] [Fintype κ]

/-- The words stand for every column left, and the value of each is above the bottom. -/
structure Covers (x : ℕ → EReal) (T : Finset ℕ) (g : ι → BitVec 32) (ri : κ → BitVec 32) : Prop where
  ne : T.Nonempty
  pos : ∀ i ∈ T, ⊥ < x i
  all : ∀ i ∈ T, (∃ s, (g s).toNat = i) ∨ ∃ s, (ri s).toNat = i
  ltg : ∀ s, (g s).toNat < 2 ^ 31
  ltr : ∀ s, (ri s).toNat < 2 ^ 31

theorem round_max {x : ℕ → EReal} {T : Finset ℕ} {g : ι → BitVec 32} {ri : κ → BitVec 32} (h : Covers x T g ri) :
    max (Finset.fold max (⊥ : EReal) (fun s => shown x T (g s)) Finset.univ) (Finset.fold max (⊥ : EReal) (fun s => shown x T (ri s)) Finset.univ)
      = x (best x T) := by
  refine le_antisymm (max_le ?_ ?_) ?_
  · exact (Finset.fold_max_le _).mpr ⟨bot_le, fun s _ => shown_le x T (g s)⟩
  · exact (Finset.fold_max_le _).mpr ⟨bot_le, fun s _ => shown_le x T (ri s)⟩
  · rcases h.all _ (best_mem x h.ne) with ⟨s, e⟩ | ⟨s, e⟩
    · exact le_max_of_le_left ((Finset.le_fold_max _).mpr (.inr ⟨s, Finset.mem_univ _, (shown_best x T h.ne _ e).ge⟩))
    · exact le_max_of_le_right ((Finset.le_fold_max _).mpr (.inr ⟨s, Finset.mem_univ _, (shown_best x T h.ne _ e).ge⟩))

/-- A signed minimum of words below `2³¹`, as a natural number. -/
theorem fold_minsi_toNat (f : ι → BitVec 32) (w : BitVec 32) (hw : w.toNat < 2 ^ 31) (hf : ∀ s, (f s).toNat < 2 ^ 31) (S : Finset ι) :
    (Finset.fold IntOp.minsi w f S).toNat = Finset.fold min w.toNat (fun s => (f s).toNat) S ∧ (Finset.fold IntOp.minsi w f S).toNat < 2 ^ 31 := by
  classical
  induction S using Finset.induction with
  | empty => exact ⟨rfl, hw⟩
  | insert a S ha ih =>
    rw [Finset.fold_insert ha, Finset.fold_insert ha, toNat_minsi_of_lt _ _ (hf a) ih.2, ih.1]
    exact ⟨rfl, lt_of_le_of_lt (min_le_left _ _) (hf a)⟩

/-- The word a place offers when the greatest value is `m`: its column where it shows `m`, else the largest word. -/
theorem offer_ge {x : ℕ → EReal} {T : Finset ℕ} (hT : T.Nonempty) (pos : ∀ i ∈ T, ⊥ < x i) (w : BitVec 32) :
    best x T ≤ (Scalar.select (BitVec.ofBool (decide (shown x T w = x (best x T)))) w 2147483647#32).toNat ∨ 2 ^ 31 - 1 < best x T := by
  by_cases e : shown x T w = x (best x T)
  · rw [decide_eq_true e]
    refine .inl ?_
    show best x T ≤ w.toNat
    have hb : ⊥ < x (best x T) := pos _ (best_mem x hT)
    have hw : w.toNat ∈ T := by
      by_contra hn
      unfold shown at e; rw [if_neg hn] at e; exact hb.ne e
    by_cases hne : w.toNat = best x T
    · exact hne.ge
    · unfold shown at e; rw [if_pos hw] at e
      rcases best_before x hw hne with h | h
      · exact (h.ne e).elim
      · exact h.2.le
  · rw [decide_eq_false e]
    show best x T ≤ (2147483647#32 : BitVec 32).toNat ∨ _
    rw [show (2147483647#32 : BitVec 32).toNat = 2 ^ 31 - 1 from by decide]
    omega

theorem offer_lt {x : ℕ → EReal} {T : Finset ℕ} (w : BitVec 32) (h : w.toNat < 2 ^ 31) (c : BitVec 1) :
    (Scalar.select c w 2147483647#32).toNat < 2 ^ 31 := by
  unfold Scalar.select
  split
  · exact h
  · decide

theorem round_min {x : ℕ → EReal} {T : Finset ℕ} {g : ι → BitVec 32} {ri : κ → BitVec 32} (h : Covers x T g ri) :
    (IntOp.minsi
      (Finset.fold IntOp.minsi 2147483647#32 (fun s => Scalar.select (BitVec.ofBool (decide (shown x T (g s) = x (best x T)))) (g s) 2147483647#32) Finset.univ)
      (Finset.fold IntOp.minsi 2147483647#32 (fun s => Scalar.select (BitVec.ofBool (decide (shown x T (ri s) = x (best x T)))) (ri s) 2147483647#32) Finset.univ)).toNat
      = best x T := by
  have hbig : (2147483647#32 : BitVec 32).toNat = 2 ^ 31 - 1 := by decide
  have hlt : best x T < 2 ^ 31 := by
    rcases h.all _ (best_mem x h.ne) with ⟨s, e⟩ | ⟨s, e⟩
    · exact e ▸ h.ltg s
    · exact e ▸ h.ltr s
  obtain ⟨e1, l1⟩ := fold_minsi_toNat (fun s => Scalar.select (BitVec.ofBool (decide (shown x T (g s) = x (best x T)))) (g s) 2147483647#32)
    2147483647#32 (by decide) (fun s => offer_lt (x := x) (T := T) _ (h.ltg s) _) Finset.univ
  obtain ⟨e2, l2⟩ := fold_minsi_toNat (fun s => Scalar.select (BitVec.ofBool (decide (shown x T (ri s) = x (best x T)))) (ri s) 2147483647#32)
    2147483647#32 (by decide) (fun s => offer_lt (x := x) (T := T) _ (h.ltr s) _) Finset.univ
  rw [toNat_minsi_of_lt _ _ l1 l2, e1, e2]
  refine le_antisymm ?_ (le_min ?_ ?_)
  · rcases h.all _ (best_mem x h.ne) with ⟨s, e⟩ | ⟨s, e⟩
    · refine min_le_of_left_le ((Finset.fold_min_le _).mpr (.inr ⟨s, Finset.mem_univ _, ?_⟩))
      rw [decide_eq_true (shown_best x T h.ne _ e)]; exact e.le
    · refine min_le_of_right_le ((Finset.fold_min_le _).mpr (.inr ⟨s, Finset.mem_univ _, ?_⟩))
      rw [decide_eq_true (shown_best x T h.ne _ e)]; exact e.le
  · exact (Finset.le_fold_min _).mpr ⟨by omega, fun s _ => (offer_ge h.ne h.pos (g s)).resolve_right (by omega)⟩
  · exact (Finset.le_fold_min _).mpr ⟨by omega, fun s _ => (offer_ge h.ne h.pos (ri s)).resolve_right (by omega)⟩

/-- What a place shows once the best column is struck out. -/
theorem round_next {x : ℕ → EReal} {T : Finset ℕ} (hT : T.Nonempty) (w b : BitVec 32) (hb : b.toNat = best x T) :
    Scalar.select (IntOp.andi (BitVec.ofBool (decide (shown x T w = x (best x T)))) (IntOp.cmpi .eq w b)) (⊥ : EReal) (shown x T w)
      = shown x (T.erase (best x T)) w := by
  have hc : IntOp.cmpi .eq w b = BitVec.ofBool (decide (w = b)) := by
    by_cases e : w = b
    · subst e; simp [IntOp.cmpi]
    · simp only [IntOp.cmpi]; rw [show (w == b) = decide (w = b) from rfl]
  rw [hc]
  by_cases e : w = b
  · subst e
    rw [decide_eq_true (shown_best x T hT _ hb), decide_eq_true rfl]
    show (⊥ : EReal) = _
    unfold shown
    rw [hb, if_neg (Finset.notMem_erase _ _)]
  · rw [decide_eq_false e]
    have hne : w.toNat ≠ best x T := fun h => e (BitVec.eq_of_toNat_eq (h.trans hb.symm))
    have hs : shown x T w = shown x (T.erase (best x T)) w := by
      unfold shown
      simp only [Finset.mem_erase, hne, ne_eq, not_false_eq_true, true_and]
    rw [← hs]
    cases decide (shown x T w = x (best x T)) <;> rfl

end Cert.Pick

end
-- ==== Proof.ProjPick.lean ====
/-
  The rounds of the projection call, row by row, as picks: a point's ten rounds leave the ten best of the columns carried to it and of its
  block, and the list carried past a point is the ten best of every column so far.
-/
module

public import proofs.«01_k».proof.Proof.ProjRun
public import proofs.«01_k».proof.Proof.PickRound
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Pick
open Idealize.ShloMosaic Idealize.ShloMosaic.TcCoe Idealize.ShloMosaic.Tactic
open Idealize.SL Idealize.SL.Sem

/-- A row of the rounds' state after `k` picks from `P`. -/
structure RowSt (x : ℕ → EReal) (P : Finset ℕ) (g : IVec S32x4096 32) (ri : IVec S32x16 32) (r : Fin 32) (s : St Ideal) (k : ℕ) : Prop where
  xm : ∀ j : Fin 4096, s.xm (ix2 r j) = shown x (rem x P k) (g (ix2 r j))
  xr : ∀ l : Fin 16, s.xr (ix2 r l) = shown x (rem x P k) (ri (ix2 r l))
  ov : ∀ l : Fin 16, s.ov (ix2 r l) = if l.val < k then x (pick x P l.val) else ⊥
  oi : ∀ l : Fin 16, s.oi (ix2 r l) = if l.val < k then BitVec.ofNat 32 (pick x P l.val) else 2147483647#32

/-- What the picks of a row need of the pool and of the words. -/
structure RowPool (x : ℕ → EReal) (P : Finset ℕ) (g : IVec S32x4096 32) (ri : IVec S32x16 32) (r : Fin 32) : Prop where
  pos : ∀ i ∈ P, ⊥ < x i
  all : ∀ i ∈ P, (∃ j : Fin 4096, (g (ix2 r j)).toNat = i) ∨ ∃ l : Fin 16, (ri (ix2 r l)).toNat = i
  ltg : ∀ j : Fin 4096, (g (ix2 r j)).toNat < 2 ^ 31
  ltr : ∀ l : Fin 16, (ri (ix2 r l)).toNat < 2 ^ 31

variable {x : ℕ → EReal} {P : Finset ℕ} {g : IVec S32x4096 32} {ri : IVec S32x16 32} {r : Fin 32} {s : St Ideal} {k : ℕ}

theorem RowPool.covers (h : RowPool x P g ri r) (hk : k < P.card) :
    Covers x (rem x P k) (fun j : Fin 4096 => g (ix2 r j)) (fun l : Fin 16 => ri (ix2 r l)) where
  ne := rem_nonempty x P k hk
  pos i hi := h.pos i (rem_subset x P k hi)
  all i hi := h.all i (rem_subset x P k hi)
  ltg := h.ltg
  ltr := h.ltr

theorem bottom_word : Ideal.ofBits FTy.f32 4286578688#32 = (⊥ : EReal) := by
  simp [Ideal.ofBits, Ideal.ieee]

theorem row_max (h : RowPool x P g ri r) (hk : k < P.card) (hs : RowSt x P g ri r s k) :
    rmax s.xm s.xr (ix2 r 0) = x (pick x P k) := by
  pointwise [rmax]
  rw [bottom_word]
  simp only [hs.xm, hs.xr]
  exact round_max (h.covers hk)

theorem row_eqm (h : RowPool x P g ri r) (hk : k < P.card) (hs : RowSt x P g ri r s k) (j : Fin 4096) :
    eqm s.xm s.xr (ix2 r j) = BitVec.ofBool (decide (shown x (rem x P k) (g (ix2 r j)) = x (pick x P k))) := by
  pointwise [eqm]
  rw [row_max h hk hs, hs.xm]

theorem row_eqr (h : RowPool x P g ri r) (hk : k < P.card) (hs : RowSt x P g ri r s k) (l : Fin 16) :
    eqr s.xm s.xr (ix2 r l) = BitVec.ofBool (decide (shown x (rem x P k) (ri (ix2 r l)) = x (pick x P k))) := by
  pointwise [eqr]
  rw [row_max h hk hs, hs.xr]

theorem row_idx (h : RowPool x P g ri r) (hk : k < P.card) (hs : RowSt x P g ri r s k) :
    (ridx g ri s.xm s.xr (ix2 r 0)).toNat = pick x P k := by
  pointwise [ridx]
  simp only [row_eqm h hk hs, row_eqr h hk hs]
  exact round_min (h.covers hk)

theorem lane_eq (l : Fin 16) (hk : k < 16) : IntOp.cmpi .eq (BitVec.ofNat 32 l.val) (BitVec.ofNat 32 k) = BitVec.ofBool (decide (l.val = k)) := by
  rw [WordCmp.cmpi_eq_ofNat (by omega) (by omega)]

/-- One round is one pick. -/
theorem row_step (h : RowPool x P g ri r) (hk : k < P.card) (hk' : k < 16) (hs : RowSt x P g ri r s k) :
    RowSt x P g ri r (stp g ri (BitVec.ofNat 32 k) s) (k + 1) where
  xm j := by
    pointwise [stp]
    rw [row_eqm h hk hs, hs.xm, mask_eq]
    exact round_next (rem_nonempty x P k hk) _ _ (row_idx h hk hs)
  xr l := by
    pointwise [stp]
    rw [row_eqr h hk hs, hs.xr, mask_eq]
    exact round_next (rem_nonempty x P k hk) _ _ (row_idx h hk hs)
  ov l := by
    pointwise [stp]
    rw [lane_eq l hk', row_max h hk hs, hs.ov]
    by_cases e : l.val = k
    · rw [decide_eq_true e, if_pos (show l.val < k + 1 by omega), e]; rfl
    · rw [decide_eq_false e, if_congr (show l.val < k + 1 ↔ l.val < k by omega) rfl rfl]; rfl
  oi l := by
    pointwise [stp]
    rw [lane_eq l hk', hs.oi]
    by_cases e : l.val = k
    · rw [decide_eq_true e, if_pos (show l.val < k + 1 by omega), e, ← row_idx h hk hs, BitVec.ofNat_toNat, BitVec.setWidth_eq]; rfl
    · rw [decide_eq_false e, if_congr (show l.val < k + 1 ↔ l.val < k by omega) rfl rfl]; rfl

theorem row_rounds (h : RowPool x P g ri r) (hs : RowSt x P g ri r s 0) (n : ℕ) (hn : n ≤ P.card) (hn' : n ≤ 16) :
    RowSt x P g ri r (rounds g ri s n) n := by
  induction n with
  | zero => exact hs
  | succ n ih => exact row_step h (by omega) (by omega) (ih (by omega) (by omega))

variable (m : (ℓ : Loc nD τ sig) → Buf (Elt Ideal) ℓ)

/-- A row of logits by column. -/
def col (c : Dev nD) (r : Fin 32) (n : ℕ) : EReal := if h : n < 100000 then lg m c r ⟨n, h⟩ else ⊥

/-- How many columns the points before `n` cover. -/
def seen (n : ℕ) : ℕ := min (4096 * n) 100000

/-- A list that holds, in its first ten lanes, the ten best of the columns before point `n`. -/
structure Listed (x : ℕ → EReal) (n : ℕ) (yv : FVec Ideal S32x16 .f32) (yi : IVec S32x16 32) (r : Fin 32) : Prop where
  v : ∀ l : Fin 16, yv (ix2 r l) = if l.val < 10 ∧ 0 < n then x (pick x (Finset.range (seen n)) l.val) else ⊥
  i : ∀ l : Fin 16, yi (ix2 r l) = if l.val < 10 ∧ 0 < n then BitVec.ofNat 32 (pick x (Finset.range (seen n)) l.val) else 2147483647#32

/-- How many columns are carried to point `n`. -/
def kept (n : ℕ) : ℕ := if n = 0 then 0 else 10

/-- The columns in play at point `n`. -/
def pool (x : ℕ → EReal) (n : ℕ) : Finset ℕ := picks x (Finset.range (seen n)) (kept n) ∪ Finset.Ico (seen n) (seen (n + 1))

theorem kept_le (n : ℕ) : kept n ≤ (Finset.range (seen n)).card := by
  unfold kept seen; rw [Finset.card_range]; split <;> omega

theorem whole (n : ℕ) : Finset.range (seen n) ∪ Finset.Ico (seen n) (seen (n + 1)) = Finset.range (seen (n + 1)) := by
  ext i; simp only [Finset.mem_union, Finset.mem_range, Finset.mem_Ico, seen]; omega

theorem pick_pool (x : ℕ → EReal) (n k : ℕ) (hk : k < 10) : pick x (pool x n) k = pick x (Finset.range (seen (n + 1))) k := by
  by_cases h0 : n = 0
  · subst h0
    have e : pool x 0 = Finset.range (seen (0 + 1)) := by
      rw [← whole 0]; rfl
    rw [e]
  · rw [← whole n]
    exact pick_merge x _ _ _ (kept_le n) k (by unfold kept; rw [if_neg h0]; exact hk)

theorem pool_lt (x : ℕ → EReal) (n : ℕ) {i : ℕ} (h : i ∈ pool x n) : i < 100000 := by
  rcases Finset.mem_union.mp h with h | h
  · have := Finset.mem_range.mp (picks_subset x _ _ (kept_le n) h); unfold seen at this; omega
  · have := (Finset.mem_Ico.mp h).2; unfold seen at this; omega

theorem card_pool (x : ℕ → EReal) (n : ℕ) (hn : n < 25) : 10 ≤ (pool x n).card := by
  refine le_trans ?_ (Finset.card_le_card (show Finset.Ico (seen n) (seen (n + 1)) ⊆ pool x n from Finset.subset_union_right))
  rw [Nat.card_Ico]; unfold seen; omega

theorem block_mem (x : ℕ → EReal) (n j : ℕ) (hj : j < 4096) : n * 4096 + j ∈ pool x n ↔ n * 4096 + j < 100000 := by
  refine ⟨pool_lt x n, fun h => Finset.mem_union_right _ (Finset.mem_Ico.mpr ?_)⟩
  unfold seen; omega

theorem toNat_small {n : ℕ} (h : n < 2 ^ 31) : (BitVec.ofNat 32 n).toNat = n := by
  rw [BitVec.toNat_ofNat]; omega

theorem pick_lt (x : ℕ → EReal) (n k : ℕ) (hn : 0 < n) (hk : k < 10) : pick x (Finset.range (seen n)) k < 100000 := by
  have h := pick_mem x (Finset.range (seen n)) (k := k) (by rw [Finset.card_range]; unfold seen; omega)
  exact lt_of_lt_of_le (Finset.mem_range.mp h) (min_le_right _ _)

theorem listed_pool (x : ℕ → EReal) (n : ℕ) (hn : n < 25) (hpos : ∀ i, i < 100000 → ⊥ < x i) (yv yi) (r : Fin 32) (h : Listed x n yv yi r)
    (g : IVec S32x4096 32) (hg : ∀ j : Fin 4096, g (ix2 r j) = BitVec.ofNat 32 (n * 4096 + j.val)) : RowPool x (pool x n) g yi r where
  pos i hi := hpos i (pool_lt x n hi)
  all i hi := by
    rcases Finset.mem_union.mp hi with hp | hp
    · obtain ⟨k, hk, rfl⟩ := Finset.mem_image.mp hp
      have hk := Finset.mem_range.mp hk
      have h0 : 0 < n := by by_contra h0; unfold kept at hk; rw [if_pos (by omega)] at hk; omega
      have hk10 : k < 10 := by unfold kept at hk; split at hk <;> omega
      refine .inr ⟨⟨k, by omega⟩, ?_⟩
      rw [h.i, if_pos ⟨hk10, h0⟩]
      exact toNat_small (lt_trans (pick_lt x n k h0 hk10) (by norm_num))
    · have hlt := pool_lt x n hi
      have hp := Finset.mem_Ico.mp hp
      unfold seen at hp
      refine .inl ⟨⟨i - n * 4096, by omega⟩, ?_⟩
      rw [hg, toNat_small (by omega)]
      show n * 4096 + (i - n * 4096) = i
      omega
  ltg j := by rw [hg, toNat_small (by omega)]; omega
  ltr l := by
    rw [h.i]; split
    · next hl => have := pick_lt x n l.val hl.2 hl.1; rw [toNat_small (by omega)]; omega
    · decide

theorem listed_start (c : Dev nD) (r : Fin 32) (t : Fin cfg0.N) (yv yi) (h : Listed (col m c r) t.val yv yi r) :
    RowSt (col m c r) (pool (col m c r) t.val) (k0_pay4 (grid0.coords t)) yi r ⟨msk m c t, yv, k0_pay6, k0_pay7⟩ 0 where
  xm j := by
    have ht : t.val < 25 := lt_of_lt_of_eq t.isLt N_0
    rw [pay4_apply]
    unfold shown
    rw [toNat_small (by omega), if_congr (show t.val * 4096 + j.val ∈ rem (col m c r) (pool (col m c r) t.val) 0 ↔ _ from block_mem _ t.val j.val j.isLt) rfl rfl]
    show (if h : t.val * 4096 + j.val < 100000 then lg m c r ⟨t.val * 4096 + j.val, h⟩ else (⊥ : EReal)) = _
    unfold col
    by_cases hj : t.val * 4096 + j.val < 100000
    · rw [dif_pos hj, if_pos hj]
    · rw [dif_neg hj, if_neg hj]
  xr l := by
    show yv (ix2 r l) = _
    rw [h.v, h.i]
    unfold shown
    by_cases hl : l.val < 10 ∧ 0 < t.val
    · have hlt := pick_lt (col m c r) t.val l.val hl.2 hl.1
      rw [if_pos hl, if_pos hl, toNat_small (by omega), if_pos]
      refine Finset.mem_union_left _ (Finset.mem_image_of_mem _ (Finset.mem_range.mpr ?_))
      unfold kept; rw [if_neg (by omega)]; exact hl.1
    · rw [if_neg hl, if_neg hl, if_neg]
      intro hm
      have := pool_lt _ _ hm
      rw [show (2147483647#32 : BitVec 32).toNat = 2147483647 from by decide] at this
      omega
  ov l := by
    rw [if_neg (by omega)]
    show k0_pay6 (ix2 r l) = _
    pointwise [k0_pay6]
    exact mask_eq
  oi l := by
    rw [if_neg (by omega)]
    show k0_pay7 (ix2 r l) = _
    pointwise [k0_pay7]

/-- The list carried to a point holds the ten best of the columns before it. -/
theorem carry_listed (c : Dev nD) (hpos : ∀ r v, ⊥ < lg m c r v) (r : Fin 32) (n : ℕ) (hn : n ≤ 25) :
    Listed (col m c r) n (carry m c n).1 (carry m c n).2 r := by
  induction n with
  | zero =>
    constructor
    · intro l; rw [if_neg (by omega)]
      show k0_pay1 (ix2 r l) = _
      pointwise [k0_pay1]
      exact mask_eq
    · intro l; rw [if_neg (by omega)]
      show k0_pay2 (ix2 r l) = _
      pointwise [k0_pay2]
  | succ n ih =>
    have ih := ih (by omega)
    have ht : n < cfg0.N := lt_of_lt_of_eq (by omega : n < 25) N_0.symm
    have hp : ∀ i, i < 100000 → ⊥ < col m c r i := fun i hi => by unfold col; rw [dif_pos hi]; exact hpos _ _
    rw [carry_succ m c ⟨n, ht⟩]
    have hr := row_rounds (listed_pool (col m c r) n (by omega) hp _ _ r ih (k0_pay4 (grid0.coords ⟨n, ht⟩)) (fun j => pay4_apply ⟨n, ht⟩ r j))
      (listed_start m c r ⟨n, ht⟩ _ _ ih) 10 (card_pool _ n (by omega)) (by omega)
    constructor
    · intro l
      refine (hr.ov l).trans ?_
      by_cases hl : l.val < 10
      · rw [if_pos hl, if_pos ⟨hl, by omega⟩, pick_pool _ n _ hl]
      · rw [if_neg hl, if_neg (fun h => hl h.1)]
    · intro l
      refine (hr.oi l).trans ?_
      by_cases hl : l.val < 10
      · rw [if_pos hl, if_pos ⟨hl, by omega⟩, pick_pool _ n _ hl]
      · rw [if_neg hl, if_neg (fun h => hl h.1)]

end Cert.KernelIdeal.Hand

end
-- ==== Proof.ProjRef.lean ====
/-
  The reference's side of the projection: its logits at an index, its top-k as picks, its padding, and what the precondition says.
-/
module

public import proofs.«01_k».proof.Proof.ProjPick
public import proofs.«01_k».proof.Proof.Gen.Pre_finite_logits
public import proofs.«01_k».proof.Proof.PickRound
public import Idealize.ShloMosaic.Lib.Pipeline.ValueKit
public import Idealize.ShloMosaic.Lib.Pointwise
public import Idealize.ShloMosaic.Lib.SortFacts
public import Idealize.ShloMosaic.Lib.SortPrefix
public import Idealize.ShloMosaic.Lib.ReduceAll
public import Idealize.ShloMosaic.Lib.IdealHost

@[expose] public section

set_option maxRecDepth 16384

noncomputable section

namespace Cert.ReferenceIdeal.Hand

open Cert.ReferenceIdeal Cert.ReferenceIdeal.Gen Cert.Pick
open Idealize.ShloMosaic Idealize.ShloMosaic.TcCoe Idealize.ShloMosaic.Tactic
open Idealize.SL Idealize.SL.Sem

/-- Sorting an increasing list stably by a relation is sorting it by that relation with ties to the earlier position. -/
theorem stableSort_ties {n : ℕ} (B : Fin n → Fin n → Bool) (B' : Fin n → Fin n → Bool) (h : ∀ a b, a < b → B b a = B' b a)
    (l : List (Fin n)) (hl : l.Pairwise (· < ·)) : stableSort B l = stableSort B' l := by
  induction l with
  | nil => rfl
  | cons a l ih =>
    rw [List.pairwise_cons] at hl
    unfold stableSort
    rw [ih hl.2]
    exact insertBefore_congr _ _ a _ fun b hb => h a b (hl.1 b ((perm_stableSort B' l).mem_iff.mp hb))

/-- The reference's logit of a row and a column. -/
def rlg (H : FVec Ideal S32x512 .f32) (W : FVec Ideal S512x100000 .f32) (b : FVec Ideal S100000 .f32) (r : Fin 32) (v : Fin 100000) : EReal :=
  (∑ k : Fin 512, H (ix2 r k) * W (ix2 k v)) + b (ix1 v)

theorem logits_apply (H : FVec Ideal S32x512 .f32) (W : FVec Ideal S512x100000 .f32) (b : FVec Ideal S100000 .f32) (r : Fin 32) (v : Fin 100000) :
    addf (Host.dotGeneral dot_S32x512_S512x100000_S32x100000_1_0_0_1_n_n none H W)
      (broadcastInDim S32x100000 ![0, 1] bcast_S1x100000_S32x100000_0_1 (broadcastInDim S1x100000 ![1] bcast_S100000_S1x100000_1 b)) (ix2 r v)
      = rlg H W b r v := by
  pointwise
  rfl

/-- A finite family as a function of naturals. -/
def ext {n : ℕ} (f : Fin n → EReal) (i : ℕ) : EReal := if h : i < n then f ⟨i, h⟩ else ⊥

theorem ext_fin {n : ℕ} (f : Fin n → EReal) (i : Fin n) : ext f i.val = f i := dif_pos i.isLt

theorem before_ext {n : ℕ} (f : Fin n → EReal) (a b : Fin n) :
    before (ext f) a.val b.val ↔ f b < f a ∨ (f a = f b ∧ a < b) := by
  unfold before; rw [ext_fin, ext_fin, Fin.lt_def]

theorem pick_range_lt {n : ℕ} (f : Fin n → EReal) {k : ℕ} (hk : k < n) : pick (ext f) (Finset.range n) k < n :=
  Finset.mem_range.mp (pick_mem (ext f) _ (by rw [Finset.card_range]; exact hk))

/-- A stable sort of a family, greater first, begins with the family's picks. -/
theorem sorted_pick {n K : ℕ} (f : Fin n → EReal) (hK : K ≤ n) (k : Fin K) :
    sortedFrom (fun a b : Fin n => FloatOps.cmpfTotal (F := Ideal) (φ := .f32) .gt (f a) (f b) == 1#1) (k.castLE hK)
      = ⟨pick (ext f) (Finset.range n) k.val, pick_range_lt f (by omega)⟩ := by
  classical
  have hB : StrictTotalBefore fun a b : Fin n => decide (f b < f a) || (decide (f a = f b) && decide (a < b)) :=
    StrictTotalBefore.of_key_then_position (fun u v : EReal => decide (v < u)) f (fun a => by simp)
      (fun a b c h h' => by simp only [decide_eq_true_eq] at h h' ⊢; exact lt_trans h' h)
      (fun a b => by
        simp only [decide_eq_true_eq]
        rcases lt_trichotomy a b with h | h | h
        · exact .inr (.inr h)
        · exact .inr (.inl h)
        · exact .inl h)
  have hb : ∀ a b : Fin n, (decide (f b < f a) || (decide (f a = f b) && decide (a < b))) = true ↔ before (ext f) a.val b.val := fun a b => by
    rw [before_ext]; simp only [Bool.or_eq_true, Bool.and_eq_true, decide_eq_true_eq]
  have hs : sortedFrom (fun a b : Fin n => FloatOps.cmpfTotal (F := Ideal) (φ := .f32) .gt (f a) (f b) == 1#1)
      = sortedFrom (fun a b : Fin n => decide (f b < f a) || (decide (f a = f b) && decide (a < b))) := by
    funext i
    unfold sortedFrom
    rw [List.get_of_eq (show sortPositions n _ = sortPositions n _ from stableSort_ties _ _ (fun a b hab => ?_) _ (List.pairwise_lt_finRange n))]
    · rfl
    · show (BitVec.ofBool (decide (f a < f b)) == 1#1) = _
      rw [decide_eq_false (not_lt_of_gt hab), Bool.and_false, Bool.or_false]
      by_cases h : f a < f b
      · rw [decide_eq_true h]; rfl
      · rw [decide_eq_false h]; rfl
  rw [hs]
  have hc : ∀ j : Fin K, j.val < (Finset.range n).card := fun j => by rw [Finset.card_range]; omega
  refine hB.sortedFrom_eq_of_prefix hK (fun j => ⟨pick (ext f) (Finset.range n) j.val, pick_range_lt f (by omega)⟩) ?_ ?_ ?_ k
  · intro i j e
    exact Fin.ext (pick_inj (ext f) _ (hc i) (hc j) (congrArg Fin.val e))
  · intro i j hij
    refine Bool.eq_false_iff.mpr fun h => ?_
    exact before_asymm (ext f) ((hb _ _).mp h) (pick_before (ext f) _ hij (hc j))
  · intro i p hp
    refine Bool.eq_false_iff.mpr fun h => ?_
    have hr : p.val ∈ rem (ext f) (Finset.range n) K := by
      rw [rem_eq]
      refine Finset.mem_sdiff.mpr ⟨Finset.mem_range.mpr p.isLt, fun hm => ?_⟩
      obtain ⟨j, hj, e⟩ := Finset.mem_image.mp hm
      exact hp ⟨j, Finset.mem_range.mp hj⟩ (Fin.ext e)
    exact before_asymm (ext f) ((hb _ _).mp h) (before_of_mem (ext f) _ i.isLt hr)

/-- A row of an array of logits as a function of the column. -/
def rowOf (X : FVec Ideal S32x100000 .f32) (r : Fin 32) (v : Fin 100000) : EReal := X (ix2 r v)

theorem along_row (r : Fin 32) (v q : Fin 100000) : (ix2 r v : S32x100000.Idx).along 1 q = ix2 r q := by
  funext a
  fin_cases a <;> rfl

theorem sorted_row (X : FVec Ideal S32x100000 .f32) (r : Fin 32) (k : Fin 10) (v : Fin 100000) :
    sortedFrom (fun a b : Fin 100000 => FloatOps.cmpfTotal (F := Ideal) (φ := .f32) .gt (X ((ix2 r v : S32x100000.Idx).along 1 a)) (X ((ix2 r v : S32x100000.Idx).along 1 b)) == 1#1)
        (⟨k.val, by omega⟩ : Fin 100000)
      = ⟨pick (ext (rowOf X r)) (Finset.range 100000) k.val, pick_range_lt _ (by omega)⟩ := by
  refine Eq.trans ?_ (sorted_pick (rowOf X r) (by norm_num : 10 ≤ 100000) k)
  simp only [along_row]
  rfl

theorem topK_vals (X : FVec Ideal S32x100000 .f32) (r : Fin 32) (k : Fin 10) :
    (Host.topK S32x10 1 (FloatOps.cmpfTotal .gt) X sliceFits_S32x100000_S32x10).1 (ix2 r k)
      = ext (rowOf X r) (pick (ext (rowOf X r)) (Finset.range 100000) k.val) := by
  unfold Host.topK Host.sort2
  dsimp only
  rw [dif_pos (by decide)]
  pointwise
  refine (congrArg (fun q => X ((ix2 r (⟨k.val, by omega⟩ : Fin 100000) : S32x100000.Idx).along 1 q)) (sorted_row X r k ⟨k.val, by omega⟩)).trans ?_
  rw [along_row, ext, dif_pos (pick_range_lt _ (by omega))]; rfl

theorem topK_inds (X : FVec Ideal S32x100000 .f32) (r : Fin 32) (k : Fin 10) :
    (Host.topK S32x10 1 (FloatOps.cmpfTotal .gt) X sliceFits_S32x100000_S32x10).2 (ix2 r k)
      = BitVec.ofNat 32 (pick (ext (rowOf X r)) (Finset.range 100000) k.val) := by
  unfold Host.topK Host.sort2
  dsimp only
  rw [dif_pos (by decide)]
  pointwise
  refine (congrArg (fun q => BitVec.ofNat 32 ((ix2 r (⟨k.val, by omega⟩ : Fin 100000) : S32x100000.Idx).along 1 q 1).val) (sorted_row X r k ⟨k.val, by omega⟩)).trans ?_
  dsimp only
  rw [along_row]; rfl

/-- The reference's padded values. -/
theorem vals_apply (X : FVec Ideal S32x100000 .f32) (r : Fin 32) (l : Fin 16) :
    pad S32x16 ![0, 0] ![0, 6] ![0, 0] (Host.topK S32x10 1 (FloatOps.cmpfTotal .gt) X sliceFits_S32x100000_S32x10).1
        (constant S_ .f32 0xFF800000#32) pads_S32x10_S32x16_000_060 h_S_ (ix2 r l)
      = if l.val < 10 then ext (rowOf X r) (pick (ext (rowOf X r)) (Finset.range 100000) l.val) else ⊥ := by
  pointwise
  by_cases h : l.val < 10
  · rw [dif_pos h, if_pos h]; exact topK_vals X r ⟨l.val, h⟩
  · rw [dif_neg h, if_neg h]; exact Cert.KernelIdeal.Hand.bottom_word

/-- The reference's padded columns. -/
theorem inds_apply (X : FVec Ideal S32x100000 .f32) (r : Fin 32) (l : Fin 16) :
    pad S32x16 ![0, 0] ![0, 6] ![0, 0] (Host.topK S32x10 1 (FloatOps.cmpfTotal .gt) X sliceFits_S32x100000_S32x10).2
        (constantI S_ 32 2147483647#32) pads_S32x10_S32x16_000_060 h_S_ (ix2 r l)
      = if l.val < 10 then BitVec.ofNat 32 (pick (ext (rowOf X r)) (Finset.range 100000) l.val) else 2147483647#32 := by
  pointwise
  by_cases h : l.val < 10
  · rw [dif_pos h, if_pos h]; exact topK_inds X r ⟨l.val, h⟩
  · rw [dif_neg h, if_neg h]

/-- The precondition: every logit of the step's hidden rows is above the bottom. -/
theorem pre (E : FVec Ideal S32x50x512 .f32) (h c : FVec Ideal S32x512 .f32) (tok : IVec S32 32) (tab : FVec Ideal S100000x256 .f32)
    (Wx : FVec Ideal S768x2048 .f32) (Wh : FVec Ideal S512x2048 .f32) (b : FVec Ideal S2048 .f32)
    (W : FVec Ideal S512x100000 .f32) (bo : FVec Ideal S100000 .f32) (noise : FVec Ideal S32x10 .f32)
    (ht : Cert.Pre_finite_logits.fn (F := Ideal) E h c tok tab Wx Wh b W bo noise = fun _ => 1#1) (r : Fin 32) (v : Fin 100000) :
    ⊥ < rlg (stepHidden E h c tok tab Wx Wh b) W bo r v := by
  rw [pre_eq] at ht
  generalize stepHidden E h c tok tab Wx Wh b = H at ht ⊢
  have h0 := congrFun ht (fun a => a.elim0)
  haveI : Subsingleton Cert.Pre_finite_logits.S_.Idx := ⟨fun a b => funext fun i => i.elim0⟩
  have h1 := Host.reduce_andi_all _ _ _ _ _ h0 (ix2 r v)
  have h2 : cmpf .ogt (rlogits H W bo) (fun _ => Ideal.ofBits FTy.f32 4286578688#32) (ix2 r v) = 1#1 := h1
  have h3 : BitVec.ofBool (decide (Ideal.ofBits FTy.f32 4286578688#32 < rlogits H W bo (ix2 r v))) = 1#1 := h2
  unfold rlogits at h3
  rw [logits_apply, Cert.KernelIdeal.Hand.bottom_word] at h3
  by_contra hn
  rw [decide_eq_false hn] at h3
  exact absurd h3 (by decide)

end Cert.ReferenceIdeal.Hand

end
-- ==== Proof.ProjEq.lean ====
/-
  The projection call and its reference agree over the extended reals: the logits, the ten greatest of each row, their columns,
  and the tokens drawn from them.
-/
module

public import proofs.«01_k».proof.Proof.ProjRef
public import proofs.«01_k».proof.Proof.PickRound
public import Idealize.ShloMosaic.Lib.Pipeline.ValueKit
public import Idealize.ShloMosaic.Lib.Pointwise
public import Idealize.ShloMosaic.Lib.SortFacts
public import Idealize.ShloMosaic.Lib.SortPrefix
public import Idealize.ShloMosaic.Lib.ReduceAll
public import Idealize.ShloMosaic.Lib.IdealHost

@[expose] public section

set_option maxRecDepth 16384

noncomputable section

namespace Cert.KernelIdeal.Hand

open Cert.KernelIdeal Cert.KernelIdeal.Gen Cert.Pick
open Cert.ReferenceIdeal.Hand (rlogits valsOf indsOf stepHidden topOf padVals padInds nextOf nextOf_comm)
open Idealize.ShloMosaic Idealize.ShloMosaic.TcCoe Idealize.ShloMosaic.Tactic
open Idealize.SL Idealize.SL.Sem

variable (m : (ℓ : Loc nD τ sig) → Buf (Elt Ideal) ℓ)

theorem logits_eq (c : Dev nD) : logits m c = rlogits (Hd m c) (Wt m c) (Bs m c) := by
  funext j
  idx_vars j
  exact (Cert.ReferenceIdeal.Hand.logits_apply (Hd m c) (Wt m c) (Bs m c) j0 j1).symm

theorem row_eq (c : Dev nD) (r : Fin 32) :
    Cert.ReferenceIdeal.Hand.ext (Cert.ReferenceIdeal.Hand.rowOf (rlogits (Hd m c) (Wt m c) (Bs m c)) r) = col m c r := by
  rw [← logits_eq]; rfl

theorem seen_all : seen 25 = 100000 := by decide

theorem vals_eq (c : Dev nD) (hpos : ∀ r v, ⊥ < lg m c r v) :
    (carry m c 25).1 = valsOf (rlogits (Hd m c) (Wt m c) (Bs m c)) := by
  funext j
  idx_vars j
  refine ((carry_listed m c hpos j0 25 (by omega)).v j1).trans (Eq.trans ?_ (Cert.ReferenceIdeal.Hand.vals_apply (rlogits (Hd m c) (Wt m c) (Bs m c)) j0 j1).symm)
  rw [row_eq, seen_all, if_congr (show j1.val < 10 ∧ 0 < 25 ↔ j1.val < 10 by omega) rfl rfl]

theorem inds_eq (c : Dev nD) (hpos : ∀ r v, ⊥ < lg m c r v) :
    (carry m c 25).2 = indsOf (rlogits (Hd m c) (Wt m c) (Bs m c)) := by
  funext j
  idx_vars j
  refine ((carry_listed m c hpos j0 25 (by omega)).i j1).trans (Eq.trans ?_ (Cert.ReferenceIdeal.Hand.inds_apply (rlogits (Hd m c) (Wt m c) (Bs m c)) j0 j1).symm)
  rw [row_eq, seen_all, if_congr (show j1.val < 10 ∧ 0 < 25 ↔ j1.val < 10 by omega) rfl rfl]

/-- The first ten lanes of a padded list are the list. -/
theorem tenVals_pad (x : FVec Ideal S32x10 .f32) : tenVals (padVals x) = x := by
  funext j
  idx_vars j
  unfold tenVals padVals
  pointwise

theorem tenInds_pad (x : IVec S32x10 32) : tenInds (padInds x) = x := by
  funext j
  idx_vars j
  unfold tenInds padInds
  pointwise

/-- The next tokens, by the noise and the ten greatest. -/
theorem next_eq (c : Dev nD) (hpos : ∀ r v, ⊥ < lg m c r v) (n : FVec Ideal S32x10 .f32) :
    nextOf (tenVals (carry m c 25).1) n (tenInds (carry m c 25).2)
      = nextOf n (topOf (rlogits (Hd m c) (Wt m c) (Bs m c))).1 (topOf (rlogits (Hd m c) (Wt m c) (Bs m c))).2 := by
  rw [vals_eq m c hpos, inds_eq m c hpos, nextOf_comm, valsOf, indsOf, tenVals_pad, tenInds_pad]

end Cert.KernelIdeal.Hand

end
-- ==== Proof.ProjRefRun.lean ====
/-
  The reference's run: its operations in order, read back as the step's functions of the arguments.
-/
module

public import proofs.«01_k».proof.Proof.ProjHost

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- Two arrays side by side, named: its operands stand in a list whose later types mention them. -/
def joined : (⟨S32x256, .f32⟩ : BufTy).Contents (Elt F) → (⟨S32x512, .f32⟩ : BufTy).Contents (Elt F) → (⟨S32x768, .f32⟩ : BufTy).Contents (Elt F) :=
  fun a b => concatenate S32x768 1 [⟨S32x256, a⟩, ⟨S32x512, b⟩] concatenates_S32x256_S32x512_S32x768_d1

/-- The operations up to the new hidden rows. -/
abbrev cellOps : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S32, .i32⟩) main_call0_v0) (broadcastInDim S32 ![] bcast_S_S32),
    TRef.binary (TRef.of (T := ⟨S32, .i32⟩) main_arg3) (TRef.of (T := ⟨S32, .i32⟩) main_call0_v0) (TRef.of (T := ⟨S32, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S32, .i32⟩) main_call0_v2) (broadcastInDim S32 ![] bcast_S_S32),
    TRef.binary (TRef.of (T := ⟨S32, .i32⟩) main_arg3) (TRef.of (T := ⟨S32, .i32⟩) main_call0_v2) (TRef.of (T := ⟨S32, .i32⟩) main_call0_v3) addi,
    TRef.ternary (TRef.of (T := ⟨S32, .i1⟩) main_call0_v1) (TRef.of (T := ⟨S32, .i32⟩) main_call0_v3) (TRef.of (T := ⟨S32, .i32⟩) main_arg3) (TRef.of (T := ⟨S32, .i32⟩) main_call0_v4) select,
    TRef.unary (TRef.of (T := ⟨S32, .i32⟩) main_call0_v4) (TRef.of (T := ⟨S32x1, .i32⟩) main_call0_v5) (broadcastInDim S32x1 ![0] bcast_S32_S32x1_0),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S32x1, .i32⟩) main_call0_v6) (broadcastInDim S32x1 ![] bcast_S_S32x1),
    TRef.binary (TRef.of (T := ⟨S32x1, .i32⟩) main_call0_v5) (TRef.of (T := ⟨S32x1, .i32⟩) main_call0_v6) (TRef.of (T := ⟨S32x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S32x1, .i32⟩) main_call0_v9) (broadcastInDim S32x1 ![0, 1] bcast_S1x1_S32x1_0_1),
    TRef.binary (TRef.of (T := ⟨S32x1, .i32⟩) main_call0_v5) (TRef.of (T := ⟨S32x1, .i32⟩) main_call0_v9) (TRef.of (T := ⟨S32x1, .i1⟩) main_call0_v10) (cmpi .sle),
    TRef.binary (TRef.of (T := ⟨S32x1, .i1⟩) main_call0_v7) (TRef.of (T := ⟨S32x1, .i1⟩) main_call0_v10) (TRef.of (T := ⟨S32x1, .i1⟩) main_call0_v11) andi,
    TRef.nullary (TRef.of (T := ⟨S_, .i1⟩) main_call0_c_3) (constantI S_ 1 1#1),
    TRef.binary (TRef.of (T := ⟨S32x1, .i1⟩) main_call0_v11) (TRef.of (T := ⟨S_, .i1⟩) main_call0_c_3) (TRef.of (T := ⟨S32, .i1⟩) main_call0_v12) (fun x v => Host.reduce IntOp.andi x v reducesTo_S32x1_S32_d1 h_S_),
    TRef.binary (TRef.of (T := ⟨S100000x256, .f32⟩) main_arg4) (TRef.of (T := ⟨S32x1, .i32⟩) main_call0_v5) (TRef.of (T := ⟨S32x256, .f32⟩) main_call0_v13) (fun x i => Host.gather gather_S100000x256_S32x1_S32x256_1_0_n_n_0_1_1256 x i),
    TRef.unary (TRef.of (T := ⟨S32, .i1⟩) main_call0_v12) (TRef.of (T := ⟨S32x256, .i1⟩) main_call0_v14) (broadcastInDim S32x256 ![0] bcast_S32_S32x256_0),
    TRef.nullary (TRef.of (T := ⟨S_, .f32⟩) main_call0_cst) (constant S_ .f32 0x7FC00000#32),
    TRef.unary (TRef.of (T := ⟨S_, .f32⟩) main_call0_cst) (TRef.of (T := ⟨S32x256, .f32⟩) main_call0_v15) (broadcastInDim S32x256 ![] bcast_S_S32x256),
    TRef.ternary (TRef.of (T := ⟨S32x256, .i1⟩) main_call0_v14) (TRef.of (T := ⟨S32x256, .f32⟩) main_call0_v13) (TRef.of (T := ⟨S32x256, .f32⟩) main_call0_v15) (TRef.of (T := ⟨S32x256, .f32⟩) main_v0) select,
    binary main_arg0 main_arg1 main_v1 ((fun l r => Host.dotGeneral dot_S32x50x512_S32x512_S32x50_2_1_1_n_0_0 none l r) : (⟨S32x50x512, .f32⟩ : BufTy).Contents (Elt F) → (⟨S32x512, .f32⟩ : BufTy).Contents (Elt F) → (⟨S32x50, .f32⟩ : BufTy).Contents (Elt F)),
    nullary main_cst (constant S_ .f32 0xFF800000#32),
    binary main_v1 main_cst main_v2 ((fun x v => Host.reduce FloatOps.maximumf x v reducesTo_S32x50_S32_d1 h_S_) : (⟨S32x50, .f32⟩ : BufTy).Contents (Elt F) → (⟨S_, .f32⟩ : BufTy).Contents (Elt F) → (⟨S32, .f32⟩ : BufTy).Contents (Elt F)),
    nullary main_cst_0 (constant S_ .f32 0xFF800000#32),
    unary main_cst_0 main_v3 (broadcastInDim S32 ![] bcast_S_S32 : (⟨S_, .f32⟩ : BufTy).Contents (Elt F) → (⟨S32, .f32⟩ : BufTy).Contents (Elt F)),
    binary main_v3 main_v2 main_v4 (maximumf : (⟨S32, .f32⟩ : BufTy).Contents (Elt F) → (⟨S32, .f32⟩ : BufTy).Contents (Elt F) → (⟨S32, .f32⟩ : BufTy).Contents (Elt F)),
    unary main_v4 main_v5 (broadcastInDim S32x1 ![0] bcast_S32_S32x1_0 : (⟨S32, .f32⟩ : BufTy).Contents (Elt F) → (⟨S32x1, .f32⟩ : BufTy).Contents (Elt F)),
    unary main_v5 main_v6 (broadcastInDim S32x50 ![0, 1] bcast_S32x1_S32x50_0_1 : (⟨S32x1, .f32⟩ : BufTy).Contents (Elt F) → (⟨S32x50, .f32⟩ : BufTy).Contents (Elt F)),
    binary main_v1 main_v6 main_v7 (subf : (⟨S32x50, .f32⟩ : BufTy).Contents (Elt F) → (⟨S32x50, .f32⟩ : BufTy).Contents (Elt F) → (⟨S32x50, .f32⟩ : BufTy).Contents (Elt F)),
    unary main_v7 main_v8 (Host.exp : (⟨S32x50, .f32⟩ : BufTy).Contents (Elt F) → (⟨S32x50, .f32⟩ : BufTy).Contents (Elt F)),
    nullary main_cst_1 (constant S_ .f32 0x00000000#32),
    binary main_v8 main_cst_1 main_v9 ((fun x v => Host.reduceAdd x v reducesTo_S32x50_S32_d1 h_S_) : (⟨S32x50, .f32⟩ : BufTy).Contents (Elt F) → (⟨S_, .f32⟩ : BufTy).Contents (Elt F) → (⟨S32, .f32⟩ : BufTy).Contents (Elt F)),
    unary main_v9 main_v10 (broadcastInDim S32x1 ![0] bcast_S32_S32x1_0 : (⟨S32, .f32⟩ : BufTy).Contents (Elt F) → (⟨S32x1, .f32⟩ : BufTy).Contents (Elt F)),
    unary main_v10 main_v11 (broadcastInDim S32x50 ![0, 1] bcast_S32x1_S32x50_0_1 : (⟨S32x1, .f32⟩ : BufTy).Contents (Elt F) → (⟨S32x50, .f32⟩ : BufTy).Contents (Elt F)),
    binary main_v8 main_v11 main_v12 (Host.divf : (⟨S32x50, .f32⟩ : BufTy).Contents (Elt F) → (⟨S32x50, .f32⟩ : BufTy).Contents (Elt F) → (⟨S32x50, .f32⟩ : BufTy).Contents (Elt F)),
    binary main_v12 main_arg0 main_v13 ((fun l r => Host.dotGeneral dot_S32x50_S32x50x512_S32x512_1_1_n_2_0_0 none l r) : (⟨S32x50, .f32⟩ : BufTy).Contents (Elt F) → (⟨S32x50x512, .f32⟩ : BufTy).Contents (Elt F) → (⟨S32x512, .f32⟩ : BufTy).Contents (Elt F)),
    binary main_v0 main_v13 main_v14 (joined (F := F)),
    binary main_v14 main_arg5 main_v15 ((fun l r => Host.dotGeneral dot_S32x768_S768x2048_S32x2048_1_0_0_1_n_n none l r) : (⟨S32x768, .f32⟩ : BufTy).Contents (Elt F) → (⟨S768x2048, .f32⟩ : BufTy).Contents (Elt F) → (⟨S32x2048, .f32⟩ : BufTy).Contents (Elt F)),
    binary main_arg1 main_arg6 main_v16 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    binary main_v15 main_v16 main_v17 (addf : (⟨S32x2048, .f32⟩ : BufTy).Contents (Elt F) → (⟨S32x2048, .f32⟩ : BufTy).Contents (Elt F) → (⟨S32x2048, .f32⟩ : BufTy).Contents (Elt F)),
    unary main_arg7 main_v18 (broadcastInDim S1x2048 ![1] bcast_S2048_S1x2048_1 : (⟨S2048, .f32⟩ : BufTy).Contents (Elt F) → (⟨S1x2048, .f32⟩ : BufTy).Contents (Elt F)),
    unary main_v18 main_v19 (broadcastInDim S32x2048 ![0, 1] bcast_S1x2048_S32x2048_0_1 : (⟨S1x2048, .f32⟩ : BufTy).Contents (Elt F) → (⟨S32x2048, .f32⟩ : BufTy).Contents (Elt F)),
    binary main_v17 main_v19 main_v20 (addf : (⟨S32x2048, .f32⟩ : BufTy).Contents (Elt F) → (⟨S32x2048, .f32⟩ : BufTy).Contents (Elt F) → (⟨S32x2048, .f32⟩ : BufTy).Contents (Elt F)),
    unary main_v20 main_v21 ((extractStridedSlice S32x512 ![0, 0] · slices_S32x2048_S32x512_0_0) : (⟨S32x2048, .f32⟩ : BufTy).Contents (Elt F) → (⟨S32x512, .f32⟩ : BufTy).Contents (Elt F)),
    unary main_v20 main_v22 ((extractStridedSlice S32x512 ![0, 512] · slices_S32x2048_S32x512_0_512) : (⟨S32x2048, .f32⟩ : BufTy).Contents (Elt F) → (⟨S32x512, .f32⟩ : BufTy).Contents (Elt F)),
    unary main_v20 main_v23 ((extractStridedSlice S32x512 ![0, 1024] · slices_S32x2048_S32x512_0_1024) : (⟨S32x2048, .f32⟩ : BufTy).Contents (Elt F) → (⟨S32x512, .f32⟩ : BufTy).Contents (Elt F)),
    unary main_v20 main_v24 ((extractStridedSlice S32x512 ![0, 1536] · slices_S32x2048_S32x512_0_1536) : (⟨S32x2048, .f32⟩ : BufTy).Contents (Elt F) → (⟨S32x512, .f32⟩ : BufTy).Contents (Elt F)),
    unary main_v21 main_v25 (Host.negf : (⟨S32x512, .f32⟩ : BufTy).Contents (Elt F) → (⟨S32x512, .f32⟩ : BufTy).Contents (Elt F)),
    unary main_v25 main_v26 (Host.exp : (⟨S32x512, .f32⟩ : BufTy).Contents (Elt F) → (⟨S32x512, .f32⟩ : BufTy).Contents (Elt F)),
    nullary main_cst_2 (constant S_ .f32 0x3F800000#32),
    unary main_cst_2 main_v27 (broadcastInDim S32x512 ![] bcast_S_S32x512 : (⟨S_, .f32⟩ : BufTy).Contents (Elt F) → (⟨S32x512, .f32⟩ : BufTy).Contents (Elt F)),
    binary main_v27 main_v26 main_v28 (addf : (⟨S32x512, .f32⟩ : BufTy).Contents (Elt F) → (⟨S32x512, .f32⟩ : BufTy).Contents (Elt F) → (⟨S32x512, .f32⟩ : BufTy).Contents (Elt F)),
    nullary main_cst_3 (constant S_ .f32 0x3F800000#32),
    unary main_cst_3 main_v29 (broadcastInDim S32x512 ![] bcast_S_S32x512 : (⟨S_, .f32⟩ : BufTy).Contents (Elt F) → (⟨S32x512, .f32⟩ : BufTy).Contents (Elt F)),
    binary main_v29 main_v28 main_v30 (Host.divf : (⟨S32x512, .f32⟩ : BufTy).Contents (Elt F) → (⟨S32x512, .f32⟩ : BufTy).Contents (Elt F) → (⟨S32x512, .f32⟩ : BufTy).Contents (Elt F)),
    unary main_v22 main_v31 (Host.negf : (⟨S32x512, .f32⟩ : BufTy).Contents (Elt F) → (⟨S32x512, .f32⟩ : BufTy).Contents (Elt F)),
    unary main_v31 main_v32 (Host.exp : (⟨S32x512, .f32⟩ : BufTy).Contents (Elt F) → (⟨S32x512, .f32⟩ : BufTy).Contents (Elt F)),
    nullary main_cst_4 (constant S_ .f32 0x3F800000#32),
    unary main_cst_4 main_v33 (broadcastInDim S32x512 ![] bcast_S_S32x512 : (⟨S_, .f32⟩ : BufTy).Contents (Elt F) → (⟨S32x512, .f32⟩ : BufTy).Contents (Elt F)),
    binary main_v33 main_v32 main_v34 (addf : (⟨S32x512, .f32⟩ : BufTy).Contents (Elt F) → (⟨S32x512, .f32⟩ : BufTy).Contents (Elt F) → (⟨S32x512, .f32⟩ : BufTy).Contents (Elt F)),
    nullary main_cst_5 (constant S_ .f32 0x3F800000#32),
    unary main_cst_5 main_v35 (broadcastInDim S32x512 ![] bcast_S_S32x512 : (⟨S_, .f32⟩ : BufTy).Contents (Elt F) → (⟨S32x512, .f32⟩ : BufTy).Contents (Elt F)),
    binary main_v35 main_v34 main_v36 (Host.divf : (⟨S32x512, .f32⟩ : BufTy).Contents (Elt F) → (⟨S32x512, .f32⟩ : BufTy).Contents (Elt F) → (⟨S32x512, .f32⟩ : BufTy).Contents (Elt F)),
    unary main_v24 main_v37 (Host.negf : (⟨S32x512, .f32⟩ : BufTy).Contents (Elt F) → (⟨S32x512, .f32⟩ : BufTy).Contents (Elt F)),
    unary main_v37 main_v38 (Host.exp : (⟨S32x512, .f32⟩ : BufTy).Contents (Elt F) → (⟨S32x512, .f32⟩ : BufTy).Contents (Elt F)),
    nullary main_cst_6 (constant S_ .f32 0x3F800000#32),
    unary main_cst_6 main_v39 (broadcastInDim S32x512 ![] bcast_S_S32x512 : (⟨S_, .f32⟩ : BufTy).Contents (Elt F) → (⟨S32x512, .f32⟩ : BufTy).Contents (Elt F)),
    binary main_v39 main_v38 main_v40 (addf : (⟨S32x512, .f32⟩ : BufTy).Contents (Elt F) → (⟨S32x512, .f32⟩ : BufTy).Contents (Elt F) → (⟨S32x512, .f32⟩ : BufTy).Contents (Elt F)),
    nullary main_cst_7 (constant S_ .f32 0x3F800000#32),
    unary main_cst_7 main_v41 (broadcastInDim S32x512 ![] bcast_S_S32x512 : (⟨S_, .f32⟩ : BufTy).Contents (Elt F) → (⟨S32x512, .f32⟩ : BufTy).Contents (Elt F)),
    binary main_v41 main_v40 main_v42 (Host.divf : (⟨S32x512, .f32⟩ : BufTy).Contents (Elt F) → (⟨S32x512, .f32⟩ : BufTy).Contents (Elt F) → (⟨S32x512, .f32⟩ : BufTy).Contents (Elt F)),
    unary main_v23 main_v43 (Host.tanh : (⟨S32x512, .f32⟩ : BufTy).Contents (Elt F) → (⟨S32x512, .f32⟩ : BufTy).Contents (Elt F)),
    binary main_v36 main_arg2 main_v44 (mulf : (⟨S32x512, .f32⟩ : BufTy).Contents (Elt F) → (⟨S32x512, .f32⟩ : BufTy).Contents (Elt F) → (⟨S32x512, .f32⟩ : BufTy).Contents (Elt F)),
    binary main_v30 main_v43 main_v45 (mulf : (⟨S32x512, .f32⟩ : BufTy).Contents (Elt F) → (⟨S32x512, .f32⟩ : BufTy).Contents (Elt F) → (⟨S32x512, .f32⟩ : BufTy).Contents (Elt F)),
    binary main_v44 main_v45 main_v46 (addf : (⟨S32x512, .f32⟩ : BufTy).Contents (Elt F) → (⟨S32x512, .f32⟩ : BufTy).Contents (Elt F) → (⟨S32x512, .f32⟩ : BufTy).Contents (Elt F)),
    unary main_v46 main_v47 (Host.tanh : (⟨S32x512, .f32⟩ : BufTy).Contents (Elt F) → (⟨S32x512, .f32⟩ : BufTy).Contents (Elt F)),
    binary main_v42 main_v47 main_v48 (mulf : (⟨S32x512, .f32⟩ : BufTy).Contents (Elt F) → (⟨S32x512, .f32⟩ : BufTy).Contents (Elt F) → (⟨S32x512, .f32⟩ : BufTy).Contents (Elt F)) ]

/-- The logits and their ten greatest. -/
abbrev logitOps : List (HloOp τ sig (Elt F)) :=
  [ binary main_v48 main_arg8 main_v49 ((fun l r => Host.dotGeneral dot_S32x512_S512x100000_S32x100000_1_0_0_1_n_n none l r) : (⟨S32x512, .f32⟩ : BufTy).Contents (Elt F) → (⟨S512x100000, .f32⟩ : BufTy).Contents (Elt F) → (⟨S32x100000, .f32⟩ : BufTy).Contents (Elt F)),
    unary main_arg9 main_v50 (broadcastInDim S1x100000 ![1] bcast_S100000_S1x100000_1 : (⟨S100000, .f32⟩ : BufTy).Contents (Elt F) → (⟨S1x100000, .f32⟩ : BufTy).Contents (Elt F)),
    unary main_v50 main_v51 (broadcastInDim S32x100000 ![0, 1] bcast_S1x100000_S32x100000_0_1 : (⟨S1x100000, .f32⟩ : BufTy).Contents (Elt F) → (⟨S32x100000, .f32⟩ : BufTy).Contents (Elt F)),
    binary main_v49 main_v51 main_v52 (addf : (⟨S32x100000, .f32⟩ : BufTy).Contents (Elt F) → (⟨S32x100000, .f32⟩ : BufTy).Contents (Elt F) → (⟨S32x100000, .f32⟩ : BufTy).Contents (Elt F)),
    unary main_v52 main_values ((fun x => (Host.topK S32x10 1 (FloatOps.cmpfTotal .gt) x sliceFits_S32x100000_S32x10).1) : (⟨S32x100000, .f32⟩ : BufTy).Contents (Elt F) → (⟨S32x10, .f32⟩ : BufTy).Contents (Elt F)),
    unary main_v52 main_indices ((fun x => (Host.topK S32x10 1 (FloatOps.cmpfTotal .gt) x sliceFits_S32x100000_S32x10).2) : (⟨S32x100000, .f32⟩ : BufTy).Contents (Elt F) → (⟨S32x10, .i32⟩ : BufTy).Contents (Elt F)) ]

/-- The draw among the ten, and the two lists padded. -/
abbrev drawOps : List (HloOp τ sig (Elt F)) :=
  [ binary main_arg10 main_values main_v53 (addf : (⟨S32x10, .f32⟩ : BufTy).Contents (Elt F) → (⟨S32x10, .f32⟩ : BufTy).Contents (Elt F) → (⟨S32x10, .f32⟩ : BufTy).Contents (Elt F)),
    TRef.nullary (TRef.of (T := ⟨S32x10, .i32⟩) main_call1_v0) (iotaInDim S32x10 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x10, .f32⟩) main_v53) (TRef.of (T := ⟨S32x10, .i32⟩) main_call1_v0) (TRef.of (T := ⟨S_, .f32⟩) main_call1_cst) (TRef.of (T := ⟨S_, .i32⟩) main_call1_c) (TRef.of (T := ⟨S32, .f32⟩) main_call1_v1_0) (fun x y u v j => (Host.argReduce reducer_argmax_f32_i32 x y u v reducesTo_S32x10_S32_d1 h_S_ j).1),
    TRef.quaternary (TRef.of (T := ⟨S32x10, .f32⟩) main_v53) (TRef.of (T := ⟨S32x10, .i32⟩) main_call1_v0) (TRef.of (T := ⟨S_, .f32⟩) main_call1_cst) (TRef.of (T := ⟨S_, .i32⟩) main_call1_c) (TRef.of (T := ⟨S32, .i32⟩) main_v54) (fun x y u v j => (Host.argReduce reducer_argmax_f32_i32 x y u v reducesTo_S32x10_S32_d1 h_S_ j).2),
    unary main_v54 main_v55 (broadcastInDim S32x1 ![0] bcast_S32_S32x1_0 : (⟨S32, .i32⟩ : BufTy).Contents (Elt F) → (⟨S32x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x1, .i32⟩) main_call2_v0) (broadcastInDim S32x1 ![] bcast_S_S32x1),
    TRef.binary (TRef.of (T := ⟨S32x1, .i32⟩) main_v55) (TRef.of (T := ⟨S32x1, .i32⟩) main_call2_v0) (TRef.of (T := ⟨S32x1, .i1⟩) main_call2_v1) (cmpi .slt),
    TRef.nullary (TRef.of (T := ⟨S_, .i32⟩) main_call2_c_0) (constantI S_ 32 10#32),
    TRef.unary (TRef.of (T := ⟨S_, .i32⟩) main_call2_c_0) (TRef.of (T := ⟨S32x1, .i32⟩) main_call2_v2) (broadcastInDim S32x1 ![] bcast_S_S32x1),
    TRef.binary (TRef.of (T := ⟨S32x1, .i32⟩) main_v55) (TRef.of (T := ⟨S32x1, .i32⟩) main_call2_v2) (TRef.of (T := ⟨S32x1, .i32⟩) main_call2_v3) addi,
    TRef.ternary (TRef.of (T := ⟨S32x1, .i1⟩) main_call2_v1) (TRef.of (T := ⟨S32x1, .i32⟩) main_call2_v3) (TRef.of (T := ⟨S32x1, .i32⟩) main_v55) (TRef.of (T := ⟨S32x1, .i32⟩) main_call2_v4) select,
    TRef.reshape (TRef.of (T := ⟨S32x1, .i32⟩) main_call2_v4) (TRef.of (T := ⟨S32x1x1, .i32⟩) main_call2_v5) (rfl : (.i32 : EltTy) = .i32) shapeCasts_S32x1_S32x1x1,
    TRef.nullary (TRef.of (T := ⟨S1, .i32⟩) main_call2_c_1) (constantI S1 32 9#32),
    TRef.nullary (TRef.of (T := ⟨S_, .i32⟩) main_call2_c_2) (constantI S_ 32 0#32),
    TRef.unary (TRef.of (T := ⟨S_, .i32⟩) main_call2_c_2) (TRef.of (T := ⟨S32x1x1, .i32⟩) main_call2_v6) (broadcastInDim S32x1x1 ![] bcast_S_S32x1x1),
    TRef.binary (TRef.of (T := ⟨S32x1x1, .i32⟩) main_call2_v5) (TRef.of (T := ⟨S32x1x1, .i32⟩) main_call2_v6) (TRef.of (T := ⟨S32x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S32x1x1, .i32⟩) main_call2_v9) (broadcastInDim S32x1x1 ![0, 1, 2] bcast_S1x1x1_S32x1x1_0_1_2),
    TRef.binary (TRef.of (T := ⟨S32x1x1, .i32⟩) main_call2_v5) (TRef.of (T := ⟨S32x1x1, .i32⟩) main_call2_v9) (TRef.of (T := ⟨S32x1x1, .i1⟩) main_call2_v10) (cmpi .sle),
    TRef.binary (TRef.of (T := ⟨S32x1x1, .i1⟩) main_call2_v7) (TRef.of (T := ⟨S32x1x1, .i1⟩) main_call2_v10) (TRef.of (T := ⟨S32x1x1, .i1⟩) main_call2_v11) andi,
    TRef.nullary (TRef.of (T := ⟨S_, .i1⟩) main_call2_c_3) (constantI S_ 1 1#1),
    TRef.binary (TRef.of (T := ⟨S32x1x1, .i1⟩) main_call2_v11) (TRef.of (T := ⟨S_, .i1⟩) main_call2_c_3) (TRef.of (T := ⟨S32x1, .i1⟩) main_call2_v12) (fun x v => Host.reduce IntOp.andi x v reducesTo_S32x1x1_S32x1_d2 h_S_),
    TRef.binary (TRef.of (T := ⟨S32x10, .i32⟩) main_indices) (TRef.of (T := ⟨S32x1x1, .i32⟩) main_call2_v5) (TRef.of (T := ⟨S32x1, .i32⟩) main_call2_v13) (fun x i => Host.gather gather_S32x10_S32x1x1_S32x1_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S32x1, .i32⟩) main_call2_v14) (broadcastInDim S32x1 ![] bcast_S_S32x1),
    TRef.ternary (TRef.of (T := ⟨S32x1, .i1⟩) main_call2_v12) (TRef.of (T := ⟨S32x1, .i32⟩) main_call2_v13) (TRef.of (T := ⟨S32x1, .i32⟩) main_call2_v14) (TRef.of (T := ⟨S32x1, .i32⟩) main_v56) select,
    reshape main_v56 main_v57 (rfl : (.i32 : EltTy) = .i32) shapeCasts_S32x1_S32,
    nullary main_cst_8 (constant S_ .f32 0xFF800000#32),
    TRef.unary (TRef.of (T := ⟨S_, .f32⟩) main_cst_8) (TRef.of (T := ⟨S_, .f32⟩) main_call3_v0) id,
    TRef.binary (TRef.of (T := ⟨S32x10, .f32⟩) main_values) (TRef.of (T := ⟨S_, .f32⟩) main_call3_v0) (TRef.of (T := ⟨S32x16, .f32⟩) main_v58) (fun x v => pad S32x16 ![0, 0] ![0, 6] ![0, 0] x v pads_S32x10_S32x16_000_060 h_S_),
    nullary main_c (constantI S_ 32 2147483647#32),
    TRef.unary (TRef.of (T := ⟨S_, .i32⟩) main_c) (TRef.of (T := ⟨S_, .i32⟩) main_call4_v0) id,
    TRef.binary (TRef.of (T := ⟨S32x10, .i32⟩) main_indices) (TRef.of (T := ⟨S_, .i32⟩) main_call4_v0) (TRef.of (T := ⟨S32x16, .i32⟩) main_v59) (fun x v => pad S32x16 ![0, 0] ![0, 6] ![0, 0] x v pads_S32x10_S32x16_000_060 h_S_) ]

theorem cellOps_sub : (cellOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., binary_bufs_sub .., unary_bufs_sub .., binary_bufs_sub ..⟩

theorem logitOps_sub : (logitOps : List (HloOp τ sig (Elt F))).Forall fun op => op.bufs ⊆ tcRefs τ sig :=
  ⟨binary_bufs_sub .., unary_bufs_sub .., unary_bufs_sub .., binary_bufs_sub .., unary_bufs_sub .., unary_bufs_sub ..⟩

theorem drawOps_sub : (drawOps : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., binary_bufs_sub ..⟩

/-- The whole program's operations. -/
abbrev stepOps : List (HloOp τ sig (Elt F)) := cellOps ++ (logitOps ++ drawOps)

set_option maxHeartbeats 4000000 in
theorem main_eq (c : Dev nD) : main (F := F) c = seq stepOps := rfl
theorem scopedRefs_eq : (Finset.univ.filter fun b : Ref sig .tc => b.isScoped) = ∅ := by decide
theorem scopedSems_eq : (Finset.univ.filter fun sm : SemLoc sig => sm.isScoped .tc) = ∅ := by decide

theorem stepOps_sub : (stepOps : List (HloOp τ sig (Elt F))).Forall fun op => op.bufs ⊆ tcRefs τ sig :=
  List.forall_append.mpr ⟨cellOps_sub, List.forall_append.mpr ⟨logitOps_sub, drawOps_sub⟩⟩

theorem after_app (l k : List (HloOp τ sig (Elt F))) (X : Valuation τ sig (Elt F)) : after (l ++ k) X = after k (after l X) := by
  induction l generalizing X with
  | nil => rfl
  | cons op l ih => exact ih _

section Reads

variable (X : Valuation τ sig (Elt Ideal))

theorem read_cell : after cellOps X main_v46 = stepCell (X main_arg0) (X main_arg1) (X main_arg2) (X main_arg3) (X main_arg4) (X main_arg5) (X main_arg6) (X main_arg7) := by
  simp only [cellOps, TRef.binary, TRef.nullary, TRef.ternary, TRef.unary, TRef.quaternary, TRef.reshape, TRef.toBuf, TRef.ofBuf, cast_eq]
  after_results_simp
  rfl

theorem read_hidden : after cellOps X main_v48 = stepHidden (X main_arg0) (X main_arg1) (X main_arg2) (X main_arg3) (X main_arg4) (X main_arg5) (X main_arg6) (X main_arg7) := by
  simp only [cellOps, TRef.binary, TRef.nullary, TRef.ternary, TRef.unary, TRef.quaternary, TRef.reshape, TRef.toBuf, TRef.ofBuf, cast_eq]
  after_results_simp
  rfl

theorem read_logits : after logitOps X main_v52 = rlogits (X main_v48) (X main_arg8) (X main_arg9) := by
  simp only [logitOps]
  after_results_simp
  rfl

theorem read_top : after logitOps X main_values = (topOf (rlogits (X main_v48) (X main_arg8) (X main_arg9))).1
    ∧ after logitOps X main_indices = (topOf (rlogits (X main_v48) (X main_arg8) (X main_arg9))).2 := by
  simp only [logitOps]
  constructor
  · after_results_simp
    rfl
  · after_results_simp
    rfl

theorem read_next : after drawOps X main_v57 = nextOf (X main_arg10) (X main_values) (X main_indices) := by
  simp only [drawOps, TRef.binary, TRef.nullary, TRef.ternary, TRef.unary, TRef.quaternary, TRef.reshape, TRef.toBuf, TRef.ofBuf, cast_eq]
  after_results_simp
  rfl

theorem read_lists : after drawOps X main_v58 = padVals (X main_values) ∧ after drawOps X main_v59 = padInds (X main_indices) := by
  simp only [drawOps, TRef.binary, TRef.nullary, TRef.ternary, TRef.unary, TRef.quaternary, TRef.reshape, TRef.toBuf, TRef.ofBuf, cast_eq]
  constructor
  · after_results_simp
    rfl
  · after_results_simp
    rfl

theorem draw_keeps : after drawOps X main_v52 = X main_v52 ∧ after drawOps X main_v48 = X main_v48 ∧ after drawOps X main_v46 = X main_v46 := by
  simp only [drawOps, TRef.binary, TRef.nullary, TRef.ternary, TRef.unary, TRef.quaternary, TRef.reshape, TRef.toBuf, TRef.ofBuf, cast_eq]
  refine ⟨?_, ?_, ?_⟩ <;> after_results_simp

theorem logit_keeps : after logitOps X main_v48 = X main_v48 ∧ after logitOps X main_v46 = X main_v46 := by
  simp only [logitOps]
  refine ⟨?_, ?_⟩ <;> after_results_simp

theorem cellOps_args :
    after cellOps X main_arg0 = X main_arg0
    ∧ after cellOps X main_arg1 = X main_arg1
    ∧ after cellOps X main_arg2 = X main_arg2
    ∧ after cellOps X main_arg3 = X main_arg3
    ∧ after cellOps X main_arg4 = X main_arg4
    ∧ after cellOps X main_arg5 = X main_arg5
    ∧ after cellOps X main_arg6 = X main_arg6
    ∧ after cellOps X main_arg7 = X main_arg7
    ∧ after cellOps X main_arg8 = X main_arg8
    ∧ after cellOps X main_arg9 = X main_arg9
    ∧ after cellOps X main_arg10 = X main_arg10 := by
  simp only [cellOps, TRef.binary, TRef.nullary, TRef.ternary, TRef.unary, TRef.quaternary, TRef.reshape, TRef.toBuf, TRef.ofBuf, cast_eq]
  refine ⟨?_, ?_, ?_, ?_, ?_, ?_, ?_, ?_, ?_, ?_, ?_⟩ <;> after_results_simp

theorem logitOps_args :
    after logitOps X main_arg0 = X main_arg0
    ∧ after logitOps X main_arg1 = X main_arg1
    ∧ after logitOps X main_arg2 = X main_arg2
    ∧ after logitOps X main_arg3 = X main_arg3
    ∧ after logitOps X main_arg4 = X main_arg4
    ∧ after logitOps X main_arg5 = X main_arg5
    ∧ after logitOps X main_arg6 = X main_arg6
    ∧ after logitOps X main_arg7 = X main_arg7
    ∧ after logitOps X main_arg8 = X main_arg8
    ∧ after logitOps X main_arg9 = X main_arg9
    ∧ after logitOps X main_arg10 = X main_arg10 := by
  simp only [logitOps, TRef.binary, TRef.nullary, TRef.ternary, TRef.unary, TRef.quaternary, TRef.reshape, TRef.toBuf, TRef.ofBuf, cast_eq]
  refine ⟨?_, ?_, ?_, ?_, ?_, ?_, ?_, ?_, ?_, ?_, ?_⟩ <;> after_results_simp

theorem drawOps_args :
    after drawOps X main_arg0 = X main_arg0
    ∧ after drawOps X main_arg1 = X main_arg1
    ∧ after drawOps X main_arg2 = X main_arg2
    ∧ after drawOps X main_arg3 = X main_arg3
    ∧ after drawOps X main_arg4 = X main_arg4
    ∧ after drawOps X main_arg5 = X main_arg5
    ∧ after drawOps X main_arg6 = X main_arg6
    ∧ after drawOps X main_arg7 = X main_arg7
    ∧ after drawOps X main_arg8 = X main_arg8
    ∧ after drawOps X main_arg9 = X main_arg9
    ∧ after drawOps X main_arg10 = X main_arg10 := by
  simp only [drawOps, TRef.binary, TRef.nullary, TRef.ternary, TRef.unary, TRef.quaternary, TRef.reshape, TRef.toBuf, TRef.ofBuf, cast_eq]
  refine ⟨?_, ?_, ?_, ?_, ?_, ?_, ?_, ?_, ?_, ?_, ?_⟩ <;> after_results_simp

end Reads

variable (m : (ℓ : Loc nD τ sig) → Buf (Elt Ideal) ℓ) (ρ : Dev nD → PrngReg)

/-- The step's new cell and hidden rows, its logits and their ten greatest, from a launch memory. -/
def rcell (c : Dev nD) : FVec Ideal S32x512 .f32 :=
  stepCell (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))
def rhidden (c : Dev nD) : FVec Ideal S32x512 .f32 :=
  stepHidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))
def rlog (c : Dev nD) : FVec Ideal S32x100000 .f32 :=
  rlogits (rhidden m c) (m ((c.tc : Thread nD τ).loc main_arg8)) (m ((c.tc : Thread nD τ).loc main_arg9))

theorem step_args (X : Valuation τ sig (Elt Ideal)) :
    after stepOps X main_arg0 = X main_arg0
    ∧ after stepOps X main_arg1 = X main_arg1
    ∧ after stepOps X main_arg2 = X main_arg2
    ∧ after stepOps X main_arg3 = X main_arg3
    ∧ after stepOps X main_arg4 = X main_arg4
    ∧ after stepOps X main_arg5 = X main_arg5
    ∧ after stepOps X main_arg6 = X main_arg6
    ∧ after stepOps X main_arg7 = X main_arg7
    ∧ after stepOps X main_arg8 = X main_arg8
    ∧ after stepOps X main_arg9 = X main_arg9
    ∧ after stepOps X main_arg10 = X main_arg10 := by
  obtain ⟨a0, a1, a2, a3, a4, a5, a6, a7, a8, a9, a10⟩ := cellOps_args X
  obtain ⟨b0, b1, b2, b3, b4, b5, b6, b7, b8, b9, b10⟩ := logitOps_args (after cellOps X)
  obtain ⟨d0, d1, d2, d3, d4, d5, d6, d7, d8, d9, d10⟩ := drawOps_args (after logitOps (after cellOps X))
  simp only [stepOps, after_app]
  exact ⟨(d0.trans b0).trans a0, (d1.trans b1).trans a1, (d2.trans b2).trans a2, (d3.trans b3).trans a3, (d4.trans b4).trans a4, (d5.trans b5).trans a5,
    (d6.trans b6).trans a6, (d7.trans b7).trans a7, (d8.trans b8).trans a8, (d9.trans b9).trans a9, (d10.trans b10).trans a10⟩

theorem step_results (c : Dev nD) :
    after stepOps (fun b => m (c, b)) main_v52 = rlog m c
    ∧ after stepOps (fun b => m (c, b)) main_v58 = valsOf (rlog m c)
    ∧ after stepOps (fun b => m (c, b)) main_v59 = indsOf (rlog m c)
    ∧ after stepOps (fun b => m (c, b)) main_v48 = rhidden m c
    ∧ after stepOps (fun b => m (c, b)) main_v46 = rcell m c
    ∧ after stepOps (fun b => m (c, b)) main_v57 = nextOf (m ((c.tc : Thread nD τ).loc main_arg10)) (topOf (rlog m c)).1 (topOf (rlog m c)).2 := by
  have e46 := read_cell (fun b => m (c, b))
  have e48 := read_hidden (fun b => m (c, b))
  obtain ⟨a0, a1, a2, a3, a4, a5, a6, a7, a8, a9, a10⟩ := cellOps_args (fun b => m (c, b))
  simp only [stepOps, after_app]
  generalize after cellOps (fun b => m (c, b)) = Y at e46 e48 a8 a9 a10 ⊢
  have el := read_logits Y
  obtain ⟨ev, ei⟩ := read_top Y
  obtain ⟨f48, f46⟩ := logit_keeps Y
  obtain ⟨b0, b1, b2, b3, b4, b5, b6, b7, b8, b9, b10⟩ := logitOps_args Y
  rw [e48, a8, a9] at el ev ei
  generalize after logitOps Y = Z at el ev ei f48 f46 b10 ⊢
  obtain ⟨g52, g48, g46⟩ := draw_keeps Z
  obtain ⟨hv, hi⟩ := read_lists Z
  refine ⟨g52.trans el, ?_, ?_, (g48.trans f48).trans e48, (g46.trans f46).trans e46, ?_⟩
  · rw [hv, ev]; rfl
  · rw [hi, ei]; rfl
  · rw [read_next, b10, a10, ev, ei]; rfl

/-- The reference's run: its results as those functions, its arguments as launched. -/
theorem run :
    θ_run defs (onTc (τ := τ) (main (F := Ideal))) ⟨m, fun _ => 0, ρ⟩ fun r => ∀ c : Dev nD,
      r.2.mem ((c.tc : Thread nD τ).loc main_v52) = rlog m c
      ∧ r.2.mem ((c.tc : Thread nD τ).loc main_v58) = valsOf (rlog m c)
      ∧ r.2.mem ((c.tc : Thread nD τ).loc main_v59) = indsOf (rlog m c)
      ∧ r.2.mem ((c.tc : Thread nD τ).loc main_v48) = rhidden m c
      ∧ r.2.mem ((c.tc : Thread nD τ).loc main_v46) = rcell m c
      ∧ r.2.mem ((c.tc : Thread nD τ).loc main_v57) = nextOf (m ((c.tc : Thread nD τ).loc main_arg10)) (topOf (rlog m c)).1 (topOf (rlog m c)).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
      obtain ⟨h0, h1, h2, h3, h4, h5⟩ := step_results m c
      obtain ⟨a0, a1, a2, a3, a4, a5, a6, a7, a8, a9, a10⟩ := step_args (fun b => m (c, b))
      exact ⟨(h c main_v52).trans h0, (h c main_v58).trans h1, (h c main_v59).trans h2, (h c main_v48).trans h3, (h c main_v46).trans h4, (h c main_v57).trans h5,
        (h c main_arg0).trans a0, (h c main_arg1).trans a1, (h c main_arg2).trans a2, (h c main_arg3).trans a3, (h c main_arg4).trans a4, (h c main_arg5).trans a5,
        (h c main_arg6).trans a6, (h c main_arg7).trans a7, (h c main_arg8).trans a8, (h c main_arg9).trans a9, (h c main_arg10).trans a10⟩)
    (run_seq scopedRefs_eq scopedSems_eq defs main (fun _ => stepOps) main_eq (fun _ => stepOps_sub) m ρ)

end Cert.ReferenceIdeal.Hand

end
-- ==== Proof.EncStates.lean ====
/-
  The encoder reference's state and what one step makes of it, and the embedded source its loop starts on.
-/
module

public import proofs.«01_k».proof.Reference2Ideal
public import proofs.«01_k».proof.Proof.Gen.Reference2Ideal
public import Idealize.ShloMosaic.Lib.IdealHost

@[expose] public section

noncomputable section

namespace Cert.Reference2Ideal.Hand

open Idealize.ShloMosaic Cert.Reference2Ideal Cert.Reference2Ideal.Gen

/-- What a step hands the next: the hidden state, the cell, the outputs so far; and what no step changes. -/
structure State where
  hid : FVec Ideal S32x512 .f32
  cell : FVec Ideal S32x512 .f32
  outs : FVec Ideal S50x32x512 .f32
  src : FVec Ideal S50x32x256 .f32
  Wx : FVec Ideal S256x2048 .f32
  Wh : FVec Ideal S512x2048 .f32
  bias : FVec Ideal S2048 .f32

/-- Where step `j` reads and writes: row `j`, from its start. -/
def at_ (j : ℕ) (k : Fin 3) : ℤ :=
  ((![constantI S_ 32 (BitVec.ofNat 32 j), constantI S_ 32 0#32, constantI S_ 32 0#32] : Fin 3 → IVec S_ 32) k (Shape.Idx.first h_S_)).toInt

section states

variable (j : ℕ) (s : State)

/-- The step's row of the source, still with its leading axis. -/
def slab : FVec Ideal S1x32x256 .f32 := Host.dynamicSlice S1x32x256 s.src (at_ j) sliceFits_S50x32x256_S1x32x256

/-- The step's row of the source. -/
def row : FVec Ideal S32x256 .f32 := shapeCast S32x256 (slab j s) shapeCasts_S1x32x256_S32x256

/-- The four gates before their curves. -/
def gates : FVec Ideal S32x2048 .f32 :=
  addf (addf (Host.dotGeneral dot_S32x256_S256x2048_S32x2048_1_0_0_1_n_n none (row j s) s.Wx)
      (Host.dotGeneral dot_S32x512_S512x2048_S32x2048_1_0_0_1_n_n none s.hid s.Wh))
    (broadcastInDim S32x2048 ![0, 1] bcast_S1x2048_S32x2048_0_1 (broadcastInDim S1x2048 ![1] bcast_S2048_S1x2048_1 s.bias))

/-- The logistic curve. -/
def curve (x : FVec Ideal S32x512 .f32) : FVec Ideal S32x512 .f32 :=
  Host.divf (broadcastInDim S32x512 ![] bcast_S_S32x512 (constant S_ .f32 0x3F800000#32))
    (addf (broadcastInDim S32x512 ![] bcast_S_S32x512 (constant S_ .f32 0x3F800000#32)) (Host.exp (Host.negf x)))

/-- The new cell. -/
def newCell : FVec Ideal S32x512 .f32 :=
  addf (mulf (curve (extractStridedSlice S32x512 ![0, 512] (gates j s) slices_S32x2048_S32x512_0_512)) s.cell)
    (mulf (curve (extractStridedSlice S32x512 ![0, 0] (gates j s) slices_S32x2048_S32x512_0_0))
      (Host.tanh (extractStridedSlice S32x512 ![0, 1024] (gates j s) slices_S32x2048_S32x512_0_1024)))

/-- The new hidden state. -/
def newHid : FVec Ideal S32x512 .f32 :=
  mulf (curve (extractStridedSlice S32x512 ![0, 1536] (gates j s) slices_S32x2048_S32x512_0_1536)) (Host.tanh (newCell j s))

/-- The outputs with the new hidden state at the step's row. -/
def newOuts : FVec Ideal S50x32x512 .f32 :=
  Host.dynamicUpdateSlice s.outs (broadcastInDim S1x32x512 ![1, 2] bcast_S32x512_S1x32x512_1_2 (newHid j s)) (at_ j)
    updateFits_S50x32x512_S1x32x512

/-- One step. -/
def step : State := { s with hid := newHid j s, cell := newCell j s, outs := newOuts j s }

end states

/-- Before the first step: nothing carried, no output written. -/
def init (src : FVec Ideal S50x32x256 .f32) (Wx : FVec Ideal S256x2048 .f32) (Wh : FVec Ideal S512x2048 .f32) (bias : FVec Ideal S2048 .f32) : State where
  hid := broadcastInDim S32x512 ![] bcast_S_S32x512 (constant S_ .f32 0x00000000#32)
  cell := broadcastInDim S32x512 ![] bcast_S_S32x512 (constant S_ .f32 0x00000000#32)
  outs := broadcastInDim S50x32x512 ![] bcast_S_S50x32x512 (constant S_ .f32 0x00000000#32)
  src := src
  Wx := Wx
  Wh := Wh
  bias := bias

/-- A source token's place in the table: a negative token counts from the end. -/
def place (tok : IVec S32x50 32) : IVec S32x50x1 32 :=
  broadcastInDim S32x50x1 ![0, 1] bcast_S32x50_S32x50x1_0_1 (select (cmpi .slt tok (broadcastInDim S32x50 ![] bcast_S_S32x50 (constantI S_ 32 0#32)))
    (addi tok (broadcastInDim S32x50 ![] bcast_S_S32x50 (constantI S_ 32 100000#32))) tok)

/-- The source's embeddings: the table's rows, a place outside the table giving no number. -/
def embed (tok : IVec S32x50 32) (tab : FVec Ideal S100000x256 .f32) : FVec Ideal S32x50x256 .f32 :=
  select (broadcastInDim S32x50x256 ![0, 1] bcast_S32x50_S32x50x256_0_1 (Host.reduce IntOp.andi
      (andi (cmpi .sge (place tok) (broadcastInDim S32x50x1 ![] bcast_S_S32x50x1 (constantI S_ 32 0#32)))
        (cmpi .sle (place tok) (broadcastInDim S32x50x1 ![0, 1, 2] bcast_S1x1x1_S32x50x1_0_1_2 (broadcastInDim S1x1x1 ![2] bcast_S1_S1x1x1_2 (constantI S1 32 99999#32)))))
      (constantI S_ 1 1#1) reducesTo_S32x50x1_S32x50_d2 h_S_))
    (Host.gather gather_S100000x256_S32x50x1_S32x50x256_2_0_n_n_0_2_1256 tab (place tok))
    (broadcastInDim S32x50x256 ![] bcast_S_S32x50x256 (constant S_ .f32 0x7FC00000#32))

/-- The embedded source, time first. -/
def source (tok : IVec S32x50 32) (tab : FVec Ideal S100000x256 .f32) : FVec Ideal S50x32x256 .f32 :=
  transpose S50x32x256 [1, 0, 2] (embed tok tab) transposes_S32x50x256_S50x32x256_1_0_2

/-- The outputs, batch first. -/
def turned (outs : FVec Ideal S50x32x512 .f32) : FVec Ideal S32x50x512 .f32 :=
  transpose S32x50x512 [1, 0, 2] outs transposes_S50x32x512_S32x50x512_1_0_2

end Cert.Reference2Ideal.Hand

end
-- ==== Proof.EncStep.lean ====
/-
  One step of the encoder, the kernel's trip beside the reference's: the gates, the new cell, the new hidden state, and the
  row of the outputs the step writes.
-/
module

public import proofs.«01_k».proof.Proof.Gen.Kernel2Ideal.Skeleton
public import proofs.«01_k».proof.Proof.EncStates
public import Idealize.ShloMosaic.Lib.Pipeline.ValueKit
public import Idealize.ShloMosaic.Lib.Pointwise
public import Idealize.ShloMosaic.Lib.IdealHost

@[expose] public section

set_option maxRecDepth 16384

noncomputable section

namespace Cert.Kernel2Ideal.Hand

open Cert.Kernel2Ideal Cert.Kernel2Ideal.Gen
open Idealize.ShloMosaic Idealize.ShloMosaic.Tactic
open Cert.Reference2Ideal.Hand

theorem curve_eq (x : FVec Ideal S32x512 .f32) : logistic x = curve x := by
  funext j
  idx_vars j
  pointwise [curve]
  rfl

theorem word_int (k : ℕ) (hk : k < 50) : (BitVec.ofNat 32 k).toInt = (k : ℤ) := by
  rw [BitVec.toInt_eq_toNat_of_lt (by rw [BitVec.toNat_ofNat]; omega), BitVec.toNat_ofNat, Nat.mod_eq_of_lt (by omega)]

/-- Reading a row of the input, at an index. -/
theorem read_row (X : FVec Ideal S50x32x256 .f32) (q : Fin 3 → ℤ) (k : ℕ) (hk : k < 50)
    (h0 : q 0 = k) (h1 : q 1 = 0) (h2 : q 2 = 0) (r : Fin 32) (v : Fin 256) :
    Host.dynamicSlice S1x32x256 X q Cert.Reference2Ideal.Gen.sliceFits_S50x32x256_S1x32x256 (ix3 0 r v) = X (ix3 ⟨k, hk⟩ r v) := by
  have e0 : Host.clampedStart S50x32x256 S1x32x256 rfl q 0 = k := Host.clampedStart_of_le _ _ _ k h0 (by show k + 1 ≤ 50; omega)
  have e1 : Host.clampedStart S50x32x256 S1x32x256 rfl q 1 = 0 := Host.clampedStart_of_le _ _ _ 0 h1 (by decide)
  have e2 : Host.clampedStart S50x32x256 S1x32x256 rfl q 2 = 0 := Host.clampedStart_of_le _ _ _ 0 h2 (by decide)
  pointwise
  congr 1
  congr 1
  · exact Fin.ext e0
  · exact Fin.ext ((congrArg (· + r.val) e1).trans (Nat.zero_add _))
  · exact Fin.ext ((congrArg (· + v.val) e2).trans (Nat.zero_add _))

/-- The step's input row is row `k` of the input. -/
theorem row_apply (k : ℕ) (hk : k < 50) (s : State) (r : Fin 32) (v : Fin 256) :
    row k s (ix2 r v) = s.src (ix3 ⟨k, hk⟩ r v) := by
  have h : row k s (ix2 r v) = slab k s (ix3 0 r v) := by pointwise [row]
  rw [h]
  exact read_row _ _ k hk (word_int k hk) rfl rfl r v

variable (k : ℕ) (hk : k < 50) (s : State) (W : Vec Ideal S256x2048 .f32) (U : Vec Ideal S512x2048 .f32) (B : Vec Ideal S1x2048 .f32)
variable (h c : FVec Ideal S32x512 .f32) (x : Vec Ideal S1x32x256 .f32)

/-- The kernel's operands at step `k` are the reference's. -/
structure Agree : Prop where
  W : W = s.Wx
  U : U = s.Wh
  B : ∀ v, B (ix2 0 v) = s.bias (ix1 v)
  h : h = s.hid
  c : c = s.cell
  x : ∀ r v, x (ix3 0 r v) = s.src (ix3 ⟨k, hk⟩ r v)

variable {k hk s W U B h c x} (A : Agree k hk s W U B h c x)
include A

theorem gates_eq : k0_pay2 (F := Ideal) W U B h x = gates k s := by
  funext j
  idx_vars j
  pointwise [k0_pay2, gates]
  simp only [A.B, A.x, A.h, A.W, A.U, row_apply k hk]

theorem cell_eq : k0_pay3 (F := Ideal) W U B h c x = newCell k s := by
  unfold k0_pay3
  dsimp only
  rw [gates_eq A, curve_eq, curve_eq, A.c]
  rfl

theorem hidden_eq : k0_pay4 (F := Ideal) W U B h c x = newHid k s := by
  unfold k0_pay4
  dsimp only
  rw [gates_eq A, cell_eq A, curve_eq]
  rfl

theorem stored_eq (r : Fin 32) (v : Fin 512) : k0_pay5 (F := Ideal) W U B h c x (ix3 0 r v) = newHid k s (ix2 r v) := by
  rw [← hidden_eq A]
  pointwise [k0_pay5]

omit A

/-- Writing a row into the outputs, at an index. -/
theorem write_row (X : FVec Ideal S50x32x512 .f32) (u : FVec Ideal S1x32x512 .f32) (q : Fin 3 → ℤ) (k : ℕ) (hk : k < 50)
    (h0 : q 0 = k) (h1 : q 1 = 0) (h2 : q 2 = 0) (t : Fin 50) (r : Fin 32) (v : Fin 512) :
    Host.dynamicUpdateSlice X u q Cert.Reference2Ideal.Gen.updateFits_S50x32x512_S1x32x512 (ix3 t r v)
      = if t.val = k then u (ix3 0 r v) else X (ix3 t r v) := by
  have e0 : Host.clampedStart S50x32x512 S1x32x512 rfl q 0 = k := Host.clampedStart_of_le _ _ _ k h0 (by show k + 1 ≤ 50; omega)
  have e1 : Host.clampedStart S50x32x512 S1x32x512 rfl q 1 = 0 := Host.clampedStart_of_le _ _ _ 0 h1 (by decide)
  have e2 : Host.clampedStart S50x32x512 S1x32x512 rfl q 2 = 0 := Host.clampedStart_of_le _ _ _ 0 h2 (by decide)
  pointwise
  by_cases ht : t.val = k
  · rw [if_pos ht]
    refine (dif_pos ⟨⟨by rw [e0]; omega, by rw [e0]; omega⟩, by rw [e1]; omega, by rw [e2]; omega⟩).trans ?_
    congr 1
    congr 1
    · exact Fin.ext (by show t.val - _ = 0; rw [e0]; omega)
    · exact Fin.ext (by show r.val - _ = r.val; rw [e1]; rfl)
    · exact Fin.ext (by show v.val - _ = v.val; rw [e2]; rfl)
  · rw [if_neg ht]
    exact dif_neg fun h => ht (by have := h.1; rw [e0] at this; omega)

/-- The reference's step writes its new hidden state at row `k` of the outputs. -/
theorem newOuts_apply (k : ℕ) (hk : k < 50) (s : State) (t : Fin 50) (r : Fin 32) (v : Fin 512) :
    newOuts k s (ix3 t r v) = if t.val = k then newHid k s (ix2 r v) else s.outs (ix3 t r v) := by
  refine (write_row _ _ _ k hk (word_int k hk) rfl rfl t r v).trans ?_
  pointwise

end Cert.Kernel2Ideal.Hand

end
-- ==== Proof.EncRun.lean ====
/-
  The encoder call's run: the fifty trips carry the reference's states, and each trip's row of the outputs is the hidden
  state it leaves.
-/
module

public import proofs.«01_k».proof.Proof.EncStep
public import proofs.«01_k».proof.Proof.Gen.Kernel2Ideal.Frame
public import Idealize.ShloMosaic.Lib.StableHlo.Run
public import Idealize.ShloMosaic.Lib.WritesUnit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.ShloMosaic.StableHlo
open Idealize.SL Idealize.SL.Sem
open Cert.Reference2Ideal.Hand (State step newCell newHid newOuts source turned init)

/-! ## The reference's states -/

/-- The reference's state before step `k`. -/
def it (s : State) : ℕ → State
  | 0 => s
  | k + 1 => step k (it s k)

variable (s : State)

theorem it_0 (k : ℕ) : (it s k).src = s.src := by induction k with | zero => rfl | succ k ih => exact ih
theorem it_1 (k : ℕ) : (it s k).Wx = s.Wx := by induction k with | zero => rfl | succ k ih => exact ih
theorem it_2 (k : ℕ) : (it s k).Wh = s.Wh := by induction k with | zero => rfl | succ k ih => exact ih
theorem it_3 (k : ℕ) : (it s k).bias = s.bias := by induction k with | zero => rfl | succ k ih => exact ih

/-- Row `t` of the outputs, once written, is the hidden state step `t` leaves. -/
theorem it_row (t : Fin 50) (r : Fin 32) (v : Fin 512) (k : ℕ) (hk : k ≤ 50) :
    t.val < k → (it s k).outs (ix3 t r v) = (it s (t.val + 1)).hid (ix2 r v) := by
  induction k with
  | zero => intro h; omega
  | succ k ih =>
    intro h
    refine (newOuts_apply k (by omega) (it s k) t r v).trans ?_
    by_cases ht : t.val = k
    · rw [if_pos ht, ht]; rfl
    · rw [if_neg ht]; exact ih (by omega) (by omega)

/-! ## The kernel's trips -/

section trips

variable (c : Dev nD) (a0 : Memref sig .tc .vmem S50x32x256 .f32) (h0 : a0.IsWhole) (a1 : Memref sig .tc .vmem S256x2048 .f32) (h1 : a1.IsWhole)
variable (a2 : Memref sig .tc .vmem S512x2048 .f32) (h2 : a2.IsWhole) (a3 : Memref sig .tc .vmem S1x2048 .f32) (h3 : a3.IsWhole)
variable (a4 : Memref sig .tc .vmem S50x32x512 .f32) (h4 : a4.IsWhole) (a5 : Memref sig .tc .vmem S32x512 .f32) (h5 : a5.IsWhole)
variable (a6 : Memref sig .tc .vmem S32x512 .f32) (h6 : a6.IsWhole)
variable (x0 : Vec Ideal S50x32x256 .f32) (x1 : Vec Ideal S256x2048 .f32) (x2 : Vec Ideal S512x2048 .f32) (x3 : Vec Ideal S1x2048 .f32)

/-- The row of the input a trip reads. -/
def xrow (k : Fin k0_t1_loop.trips) : Vec Ideal S1x32x256 .f32 :=
  View.readAt (Elt Ideal) a0.view (Rect.unit (s := S50x32x256) (k0_off1 k) S1x32x256.size (k0_off1_inb k)).toLoadRect (h0.unread x0)

/-- The loop's state before trip `k`. -/
abbrev tst (k : ℕ) := st_k0_t1 (F := Ideal) Variants.none c none a0 h0 a1 h1 a2 h2 a3 h3 a4 h4 a5 h5 a6 h6 x1 x2 x3 (h0.unread x0) (k0_pay1, k0_pay1) k

/-- A trip's piece of the outputs. -/
def pc (k : Fin k0_t1_loop.trips) (a b : FVec Ideal S32x512 .f32) : View.Piece (Elt Ideal) S50x32x512 .f32 :=
  ⟨Rect.unit (s := S50x32x512) (k0_off2 k) S1x32x512.size (k0_off2_inb k), k0_pay5 x1 x2 x3 a b (xrow a0 h0 x0 k)⟩

theorem tst_succ (k : Fin k0_t1_loop.trips) :
    tst c a0 h0 a1 h1 a2 h2 a3 h3 a4 h4 a5 h5 a6 h6 x0 x1 x2 x3 (k.val + 1)
      = ((k0_pay4 x1 x2 x3 (tst c a0 h0 a1 h1 a2 h2 a3 h3 a4 h4 a5 h5 a6 h6 x0 x1 x2 x3 k.val).1.1 (tst c a0 h0 a1 h1 a2 h2 a3 h3 a4 h4 a5 h5 a6 h6 x0 x1 x2 x3 k.val).1.2 (xrow a0 h0 x0 k),
          k0_pay3 x1 x2 x3 (tst c a0 h0 a1 h1 a2 h2 a3 h3 a4 h4 a5 h5 a6 h6 x0 x1 x2 x3 k.val).1.1 (tst c a0 h0 a1 h1 a2 h2 a3 h3 a4 h4 a5 h5 a6 h6 x0 x1 x2 x3 k.val).1.2 (xrow a0 h0 x0 k)),
        pc a0 h0 x0 x1 x2 x3 k (tst c a0 h0 a1 h1 a2 h2 a3 h3 a4 h4 a5 h5 a6 h6 x0 x1 x2 x3 k.val).1.1 (tst c a0 h0 a1 h1 a2 h2 a3 h3 a4 h4 a5 h5 a6 h6 x0 x1 x2 x3 k.val).1.2
          :: (tst c a0 h0 a1 h1 a2 h2 a3 h3 a4 h4 a5 h5 a6 h6 x0 x1 x2 x3 k.val).2) := by
  unfold tst
  rw [st_k0_t1_succ]
  generalize st_k0_t1 (F := Ideal) Variants.none c none a0 h0 a1 h1 a2 h2 a3 h3 a4 h4 a5 h5 a6 h6 x1 x2 x3 (h0.unread x0) (k0_pay1, k0_pay1) k.val = S
  unfold tripR_k0_t1 tripL_k0_t1 trip_k0_t1
  rfl

theorem trips_eq : k0_t1_loop.trips = 50 := by decide
theorem off1_eq : ∀ k : Fin k0_t1_loop.trips, k0_off1 k = ![k.val, 0, 0] := by decide +kernel
theorem off2_eq : ∀ k : Fin k0_t1_loop.trips, k0_off2 k = ![k.val, 0, 0] := by decide +kernel

theorem xrow_apply (k : Fin k0_t1_loop.trips) (hk : k.val < 50) (r : Fin 32) (v : Fin 256) : xrow a0 h0 x0 k (ix3 0 r v) = x0 (ix3 ⟨k.val, hk⟩ r v) := by
  unfold xrow
  rw [View.readAt_eq_ld, h0.read_unread]
  show x0 _ = x0 _
  congr 1
  funext a
  have := congrFun (off1_eq k) a
  match a with
  | ⟨0, _⟩ => exact Fin.ext (by show k0_off1 k 0 + 1 * 0 = k.val; rw [off1_eq]; rfl)
  | ⟨1, _⟩ => exact Fin.ext (by show k0_off1 k 1 + 1 * r.val = r.val; rw [off1_eq]; show 0 + 1 * r.val = r.val; omega)
  | ⟨2, _⟩ => exact Fin.ext (by show k0_off1 k 2 + 1 * v.val = v.val; rw [off1_eq]; show 0 + 1 * v.val = v.val; omega)

/-- The reference's first state over the kernel's operands: nothing carried yet. -/
structure Start (s : State) : Prop where
  x0 : x0 = s.src
  x1 : x1 = s.Wx
  x2 : x2 = s.Wh
  x3 : ∀ v, x3 (ix2 0 v) = s.bias (ix1 v)
  h : (k0_pay1 (F := Ideal)) = s.hid
  c : (k0_pay1 (F := Ideal)) = s.cell

variable {s x0 x1 x2 x3}

theorem agree (S : Start x0 x1 x2 x3 s) (k : Fin k0_t1_loop.trips) (hk : k.val < 50) (h' c' : FVec Ideal S32x512 .f32)
    (e : (h', c') = ((it s k.val).hid, (it s k.val).cell)) :
    Agree k.val hk (it s k.val) x1 x2 x3 h' c' (xrow a0 h0 x0 k) where
  W := S.x1.trans (it_1 s k.val).symm
  U := S.x2.trans (it_2 s k.val).symm
  B v := (S.x3 v).trans (congrFun (it_3 s k.val) _).symm
  h := congrArg Prod.fst e
  c := congrArg Prod.snd e
  x r v := by rw [xrow_apply a0 h0 x0 k hk, it_0, S.x0]

/-- The trips carry the reference's hidden state and cell. -/
theorem tst_val (S : Start x0 x1 x2 x3 s) (k : ℕ) (hk : k ≤ 50) :
    (tst c a0 h0 a1 h1 a2 h2 a3 h3 a4 h4 a5 h5 a6 h6 x0 x1 x2 x3 k).1 = ((it s k).hid, (it s k).cell) := by
  induction k with
  | zero => exact Prod.ext S.h S.c
  | succ k ih =>
    have hk' : k < k0_t1_loop.trips := lt_of_lt_of_eq (by omega) trips_eq.symm
    have A := agree a0 h0 S ⟨k, hk'⟩ (by show k < 50; omega) _ _ (ih (by omega))
    refine (congrArg Prod.fst (tst_succ c a0 h0 a1 h1 a2 h2 a3 h3 a4 h4 a5 h5 a6 h6 x0 x1 x2 x3 ⟨k, hk'⟩)).trans ?_
    exact Prod.ext (hidden_eq A) (cell_eq A)

/-- Row `t` of the outputs, once its trip is done, is the hidden state that step `t` leaves. -/
theorem tst_row (S : Start x0 x1 x2 x3 s) {sp : Space} (v : View sig .tc sp S50x32x512 .f32) (f : v.ty.Contents (Elt Ideal))
    (t : Fin 50) (r : Fin 32) (j : Fin 512) (k : ℕ) (hk : k ≤ 50) :
    t.val < k → v.read (Elt Ideal) (v.writes (Elt Ideal) f (tst c a0 h0 a1 h1 a2 h2 a3 h3 a4 h4 a5 h5 a6 h6 x0 x1 x2 x3 k).2) (ix3 t r j) = (it s (t.val + 1)).hid (ix2 r j) := by
  induction k with
  | zero => intro h; omega
  | succ k ih =>
    intro h
    have hk' : k < k0_t1_loop.trips := lt_of_lt_of_eq (by omega) trips_eq.symm
    have A := agree a0 h0 S ⟨k, hk'⟩ (by show k < 50; omega) _ _ (tst_val c a0 h0 a1 h1 a2 h2 a3 h3 a4 h4 a5 h5 a6 h6 S k (by omega))
    rw [show (tst c a0 h0 a1 h1 a2 h2 a3 h3 a4 h4 a5 h5 a6 h6 x0 x1 x2 x3 (k + 1)).2 = _ from congrArg Prod.snd (tst_succ c a0 h0 a1 h1 a2 h2 a3 h3 a4 h4 a5 h5 a6 h6 x0 x1 x2 x3 ⟨k, hk'⟩)]
    unfold pc
    by_cases ht : t.val = k
    · refine (View.read_writes_cons_unit_of_mem v f _ _ _ (ix3 t r j) (ix3 0 r j) (off2_eq ⟨k, hk'⟩) fun a => ?_).trans ?_
      · match a with
        | ⟨0, _⟩ => exact ht
        | ⟨1, _⟩ => exact (Nat.zero_add _).symm
        | ⟨2, _⟩ => exact (Nat.zero_add _).symm
      · refine (stored_eq A r j).trans ?_
        rw [ht]; rfl
    · refine (View.read_writes_cons_unit_of_not_mem v f _ _ _ (ix3 t r j) (off2_eq ⟨k, hk'⟩) 0 (.inl ?_)).trans (ih (by omega) (by omega))
      show t.val < k
      omega

end trips

/-! ## The call's arrays -/

theorem idx0 : ∀ t : Fin grid0.N, win0_0.index t = ![0, 0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0] := by decide +kernel
theorem idx6 : ∀ t : Fin grid0.N, win0_6.index t = ![0, 0] := by decide +kernel

variable (m : (ℓ : Loc nD τ sig) → Buf (Elt Ideal) ℓ) (ρ : Dev nD → PrngReg)

/-- The embedded source the call finds. -/
theorem V_src (c : Dev nD) : V m c main_v1 = source (m ((c.tc : Thread nD τ).loc main_arg0)) (m ((c.tc : Thread nD τ).loc main_arg1)) := by
  show after (List.flatten [hostOps0, hostOps0_1]) (fun b => m (c, b)) main_v1 = _
  simp only [hostOps0, hostOps0_1, List.flatten_cons, List.flatten_nil, List.append_nil, List.cons_append, List.nil_append,
    TRef.binary, TRef.nullary, TRef.ternary, TRef.unary, TRef.toBuf, TRef.ofBuf, cast_eq]
  after_results_simp
  rfl

/-- The bias the call finds: the launched one, as a row. -/
theorem V_bias (c : Dev nD) : V m c main_v2 = shapeCast S1x2048 (m ((c.tc : Thread nD τ).loc main_arg4)) shapeCasts_S2048_S1x2048 := by
  show after (List.flatten [hostOps0, hostOps0_1]) (fun b => m (c, b)) main_v2 = _
  simp only [hostOps0, hostOps0_1, List.flatten_cons, List.flatten_nil, List.append_nil, List.cons_append, List.nil_append,
    TRef.binary, TRef.nullary, TRef.ternary, TRef.unary, TRef.toBuf, TRef.ofBuf, cast_eq]
  after_results_simp
  rfl

/-- The reference's first state over the arguments. -/
def s0 (c : Dev nD) : State :=
  init (source (m ((c.tc : Thread nD τ).loc main_arg0)) (m ((c.tc : Thread nD τ).loc main_arg1))) (m ((c.tc : Thread nD τ).loc main_arg2))
    (m ((c.tc : Thread nD τ).loc main_arg3)) (m ((c.tc : Thread nD τ).loc main_arg4))

theorem iblk_0 (c : Dev nD) (t : Fin grid0.N) :
    iblk m c 0 t = source (m ((c.tc : Thread nD τ).loc main_arg0)) (m ((c.tc : Thread nD τ).loc main_arg1)) := by
  refine Eq.trans ?_ (V_src m c)
  funext j
  show V m c main_v1 _ = V m c main_v1 j
  generalize V m c main_v1 = X
  congr 1
  blk_ext [idx0 t]

theorem iblk_1 (c : Dev nD) (t : Fin grid0.N) : iblk m c 1 t = m ((c.tc : Thread nD τ).loc main_arg2) := by
  refine Eq.trans ?_ (V_main_arg2 m c)
  funext j
  show V m c main_arg2 _ = V m c main_arg2 j
  generalize V m c main_arg2 = X
  congr 1
  blk_ext [idx1 t]

theorem iblk_2 (c : Dev nD) (t : Fin grid0.N) : iblk m c 2 t = m ((c.tc : Thread nD τ).loc main_arg3) := by
  refine Eq.trans ?_ (V_main_arg3 m c)
  funext j
  show V m c main_arg3 _ = V m c main_arg3 j
  generalize V m c main_arg3 = X
  congr 1
  blk_ext [idx2 t]

theorem row_bias (b : FVec Ideal S2048 .f32) (v : Fin 2048) : shapeCast S1x2048 b shapeCasts_S2048_S1x2048 (ix2 0 v) = b (ix1 v) := by
  pointwise

theorem iblk_3 (c : Dev nD) (t : Fin grid0.N) (v : Fin 2048) : iblk m c 3 t (ix2 0 v) = m ((c.tc : Thread nD τ).loc main_arg4) (ix1 v) := by
  have e : (win0_3.blk t).view.emb (ix2 0 v) = ix2 0 v := by blk_ext [idx3 t]
  show V m c main_v2 ((win0_3.blk t).view.emb (ix2 0 v)) = _
  rw [e, V_bias]
  exact row_bias _ v

theorem start (c : Dev nD) (t : Fin grid0.N) : Start (iblk m c 0 t) (iblk m c 1 t) (iblk m c 2 t) (iblk m c 3 t) (s0 m c) where
  x0 := iblk_0 m c t
  x1 := iblk_1 m c t
  x2 := iblk_2 m c t
  x3 v := iblk_3 m c t v
  h := by funext j; pointwise [k0_pay1, s0, init]
  c := by funext j; pointwise [k0_pay1, s0, init]

theorem trips50 : Scf.trips (0#32) (Scalar.addi 0#32 50#32) 1#32 = 50 := by decide

theorem ld_1 (x : Vec Ideal S256x2048 .f32) (t : Fin grid0.N) :
    View.readAt (Elt Ideal) (ms0_1 t).view (Rect.unit ![0, 0] ![256, 2048] inb_S256x2048_S256x2048_0_0).toLoadRect ((hs0_1 t).unread x) = x := by
  rw [View.readAt_eq_ld, (hs0_1 t).read_unread]
  exact View.ld_unit_zero (S := S256x2048) (funext fun a => by fin_cases a <;> rfl) _ _

theorem ld_2 (x : Vec Ideal S512x2048 .f32) (t : Fin grid0.N) :
    View.readAt (Elt Ideal) (ms0_2 t).view (Rect.unit ![0, 0] ![512, 2048] inb_S512x2048_S512x2048_0_0).toLoadRect ((hs0_2 t).unread x) = x := by
  rw [View.readAt_eq_ld, (hs0_2 t).read_unread]
  exact View.ld_unit_zero (S := S512x2048) (funext fun a => by fin_cases a <;> rfl) _ _

theorem ld_3 (x : Vec Ideal S1x2048 .f32) (t : Fin grid0.N) :
    View.readAt (Elt Ideal) (ms0_3 t).view (Rect.unit ![0, 0] ![1, 2048] inb_S1x2048_S1x2048_0_0).toLoadRect ((hs0_3 t).unread x) = x := by
  rw [View.readAt_eq_ld, (hs0_3 t).read_unread]
  exact View.ld_unit_zero (S := S1x2048) (funext fun a => by fin_cases a <;> rfl) _ _

/-- The outputs the body leaves. -/
theorem out_4 (c : Dev nD) (t : Fin grid0.N) (q : Fin 50) (r : Fin 32) (j : Fin 512) :
    (outsAt0 m c t).1 (ix3 q r j) = (it (s0 m c) 50).outs (ix3 q r j) := by
  rw [it_row (s0 m c) q r j 50 le_rfl q.isLt]
  unfold outsAt0 out0_A_4 kernelRun0_A
  dsimp only
  rw [trips50, ld_1, ld_2, ld_3]
  exact tst_row c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (start m c t) VO0_4 _ q r j 50 le_rfl q.isLt

/-- The hidden state the body leaves. -/
theorem out_5 (c : Dev nD) (t : Fin grid0.N) : (outsAt0 m c t).2.1 = (it (s0 m c) 50).hid := by
  refine Eq.trans ?_ (congrArg Prod.fst (tst_val c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (start m c t) 50 le_rfl))
  unfold outsAt0 out0_A_5 kernelRun0_A
  dsimp only
  rw [trips50, ld_1, ld_2, ld_3]
  funext y
  refine View.read_writes_cons_unit_of_mem VO0_5 _ _ _ _ y y (funext fun a => by fin_cases a <;> rfl) fun a => ?_
  match a with
  | ⟨0, _⟩ => exact (Nat.zero_add _).symm
  | ⟨1, _⟩ => exact (Nat.zero_add _).symm

/-- The cell the body leaves. -/
theorem out_6 (c : Dev nD) (t : Fin grid0.N) : (outsAt0 m c t).2.2 = (it (s0 m c) 50).cell := by
  refine Eq.trans ?_ (congrArg Prod.snd (tst_val c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (start m c t) 50 le_rfl))
  unfold outsAt0 out0_A_6 kernelRun0_A
  dsimp only
  rw [trips50, ld_1, ld_2, ld_3]
  funext y
  refine View.read_writes_cons_unit_of_mem VO0_6 _ _ _ _ y y (funext fun a => by fin_cases a <;> rfl) fun a => ?_
  match a with
  | ⟨0, _⟩ => exact (Nat.zero_add _).symm
  | ⟨1, _⟩ => exact (Nat.zero_add _).symm

theorem out_4' (c : Dev nD) (t : Fin grid0.N) : (outsAt0 m c t).1 = (it (s0 m c) 50).outs := by
  funext y
  idx_vars y
  exact out_4 m c t y0 y1 y2

theorem place_4 (t : Fin grid0.N) (y : (win0_4.xblock (grid0.coords t)).Idx) : win0_4.xinj (grid0.coords t) y = (win0_4.blk t).view.emb y := by
  blk_ext [idx4 t]

theorem place_5 (t : Fin grid0.N) (y : (win0_5.xblock (grid0.coords t)).Idx) : win0_5.xinj (grid0.coords t) y = (win0_5.blk t).view.emb y := by
  blk_ext [idx5 t]

theorem place_6 (t : Fin grid0.N) (y : (win0_6.xblock (grid0.coords t)).Idx) : win0_6.xinj (grid0.coords t) y = (win0_6.blk t).view.emb y := by
  blk_ext [idx6 t]

theorem arr_4 (c : Dev nD) : (dats m 0 c).arrAt 4 cfg0.N = (it (s0 m c) 50).outs := by
  refine (dats m 0 c).arrAt_eq_of_covers 4 _ (by decide +kernel) fun t hf y => ?_
  show (dats m 0 c).after 4 t (win0_4.xinj (grid0.coords t) y) = _
  rw [after0_4, out_4', place_4 t y]

theorem arr_5 (c : Dev nD) : (dats m 0 c).arrAt 5 cfg0.N = (it (s0 m c) 50).hid := by
  refine (dats m 0 c).arrAt_eq_of_covers 5 _ (by decide +kernel) fun t hf y => ?_
  show (dats m 0 c).after 5 t (win0_5.xinj (grid0.coords t) y) = _
  rw [after0_5, out_5, place_5 t y]

theorem arr_6 (c : Dev nD) : (dats m 0 c).arrAt 6 cfg0.N = (it (s0 m c) 50).cell := by
  refine (dats m 0 c).arrAt_eq_of_covers 6 _ (by decide +kernel) fun t hf y => ?_
  show (dats m 0 c).after 6 t (win0_6.xinj (grid0.coords t) y) = _
  rw [after0_6, out_6, place_6 t y]

/-- What the line after the call makes of its outputs. -/
theorem turned_arr (c : Dev nD) :
    Pipeline.afterTail₀ cfgs (dats m) 0 (V0 m) [hostOps1] c main_v4 = turned ((dats m 0 c).arrAt 4 cfg0.N) := by
  unfold Pipeline.afterTail₀
  rw [← Pipeline.withArrays_arr (cfgs 0).spec (by decide) c (V0 m c) (fun w => (dats m 0 c).arrAt w (cfgs 0).N) 4]
  generalize Pipeline.withArrays (cfgs 0).spec c (V0 m c) (fun w => (dats m 0 c).arrAt w (cfgs 0).N) = X
  simp only [hostOps1, List.flatten_cons, List.flatten_nil, List.append_nil]
  after_results_simp
  rfl

/-- The run: the reference's outputs, batch first, its hidden state and cell after fifty steps, the arguments as launched. -/
theorem run :
    θ_run defs (onTc (τ := τ) (main (F := Ideal))) ⟨m, fun _ => 0, ρ⟩ (fun r => ∀ c : Dev nD,
      r.2.mem ((c.tc : Thread nD τ).loc main_v4) = turned (it (s0 m c) 50).outs
      ∧ r.2.mem ((c.tc : Thread nD τ).loc main_v3_1) = (it (s0 m c) 50).hid
      ∧ r.2.mem ((c.tc : Thread nD τ).loc main_v3_2) = (it (s0 m c) 50).cell
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v4 (Pipeline.mem_restRefs_of main_v4 (by decide) (by decide))).trans ((turned_arr m c).trans (congrArg turned (arr_4 m c))),
      ((h.1 c).1 5).trans (arr_5 m c), ((h.1 c).1 6).trans (arr_6 m c), h.2 c⟩)
    (θ_run_and (run_main m ρ) (unchanged m ρ))

end Cert.Kernel2Ideal.Hand

end
-- ==== Proof.EncRef.lean ====
/-
  The encoder's reference: its loop's buffers before trip `k` hold the `k`-th state, so its results are the fields of the
  fiftieth.
-/
module

public import proofs.«01_k».proof.Proof.Gen.Reference2Ideal.Run
public import proofs.«01_k».proof.Proof.EncRun

@[expose] public section

noncomputable section

namespace Cert.Reference2Ideal.Hand

open Idealize.ShloMosaic Idealize.ShloMosaic.TcCoe Idealize.SL.Sem Idealize.ShloMosaic.StableHlo
open Cert.Reference2Ideal Cert.Reference2Ideal.Gen Cert.Reference2Ideal.Value
open Cert.Kernel2Ideal.Hand (it)

/-- The state the loop's buffers hold. -/
def stOf (V : Valuation τ sig (Elt Ideal)) : State where
  hid := V (Proc.devRef .tc main_v5_5)
  cell := V (Proc.devRef .tc main_v5_6)
  outs := V (Proc.devRef .tc main_v5_7)
  src := V (Proc.devRef .tc main_v5_0)
  Wx := V (Proc.devRef .tc main_v5_1)
  Wh := V (Proc.devRef .tc main_v5_2)
  bias := V (Proc.devRef .tc main_v5_3)

variable (V : Valuation τ sig (Elt Ideal)) (j : ℕ) (h : V (Proc.devRef .tc main_v5_4) = constantI S_ 32 (BitVec.ofNat 32 j))
include h

set_option maxRecDepth 16384 in
theorem cell : step_main_v5_6 V = newCell j (stOf V) := by
  unfold step_main_v5_6 res_main_while0b_v39 res_main_while0b_v13
  rw [h]
  rfl

set_option maxRecDepth 16384 in
theorem hidden : res_main_while0b_v41 V = newHid j (stOf V) := by
  unfold res_main_while0b_v41 res_main_while0b_v39 res_main_while0b_v13
  rw [h]
  rfl

set_option maxRecDepth 16384 in
theorem outs : step_main_v5_7 V = newOuts j (stOf V) := by
  unfold step_main_v5_7
  rw [h, hidden V j h]
  rfl

theorem count : step_main_v5_4 V = constantI S_ 32 (BitVec.ofNat 32 (j + 1)) := by
  unfold step_main_v5_4
  rw [h]
  funext i
  show BitVec.ofNat 32 j + 1#32 = BitVec.ofNat 32 (j + 1)
  simp only [BitVec.ofNat_add]

omit h

/-- The buffers hold `s`, and the counter holds `j`. -/
def At (s : State) : Prop := stOf V = s ∧ V (Proc.devRef .tc main_v5_4) = constantI S_ 32 (BitVec.ofNat 32 j)

variable {V j}

theorem At.step {s : State} (a : At V j s) : At (STEP V) (j + 1) (step j s) := by
  obtain ⟨rfl, h⟩ := a
  refine ⟨?_, (STEP_main_v5_4 V).trans (count V j h)⟩
  unfold stOf Cert.Reference2Ideal.Hand.step
  rw [STEP_main_v5_0, STEP_main_v5_1, STEP_main_v5_2, STEP_main_v5_3, STEP_main_v5_5, STEP_main_v5_6, STEP_main_v5_7,
    cell V j h, outs V j h, show step_main_v5_5 V = _ from hidden V j h]
  rfl

variable (m : (ℓ : Loc nD τ sig) → Buf (Elt Ideal) ℓ) (ρ : Dev nD → PrngReg)

/-- The first state, of the arguments. -/
def first (c : Dev nD) : State :=
  init (source (m ((c.tc : Thread nD τ).loc main_arg0)) (m ((c.tc : Thread nD τ).loc main_arg1))) (m ((c.tc : Thread nD τ).loc main_arg2))
    (m ((c.tc : Thread nD τ).loc main_arg3)) (m ((c.tc : Thread nD τ).loc main_arg4))

set_option maxRecDepth 65536 in
set_option maxHeartbeats 1000000 in
theorem at_first (c : Dev nD) : At (entryContents preI m c) 0 (first m c) := by
  refine ⟨?_, ?_⟩
  · unfold stOf first init
    congr 1 <;> (simp only [entryContents, afterL_cons, afterL_nil, hostOps0, hostOps0_1,
      TRef.binary, TRef.nullary, TRef.ternary, TRef.unary, TRef.toBuf, TRef.ofBuf, cast_eq]; after_results_simp) <;> rfl
  · simp only [entryContents, afterL_cons, afterL_nil, hostOps0, hostOps0_1,
      TRef.binary, TRef.nullary, TRef.ternary, TRef.unary, TRef.toBuf, TRef.ofBuf, cast_eq]
    after_results_simp <;> rfl

theorem at_it (c : Dev nD) (k : ℕ) : At (STEP^[k] (entryContents preI m c)) k (it (first m c) k) := by
  induction k with
  | zero => exact at_first m c
  | succ k ih =>
    rw [Function.iterate_succ_apply']
    exact ih.step

theorem outs_it (c : Dev nD) (k : ℕ) : (STEP^[k] (entryContents preI m c)) (Proc.devRef .tc main_v5_7) = (it (first m c) k).outs :=
  congrArg State.outs (at_it m c k).1

theorem hidden_it (c : Dev nD) (k : ℕ) : (STEP^[k] (entryContents preI m c)) (Proc.devRef .tc main_v5_5) = (it (first m c) k).hid :=
  congrArg State.hid (at_it m c k).1

theorem cell_it (c : Dev nD) (k : ℕ) : (STEP^[k] (entryContents preI m c)) (Proc.devRef .tc main_v5_6) = (it (first m c) k).cell :=
  congrArg State.cell (at_it m c k).1

/-- The reference's run: its results are the fiftieth state's, the outputs batch first, the arguments as launched. -/
theorem run :
    θ_run (defs (F := Ideal)) (onTc (τ := τ) (main (F := Ideal))) ⟨m, fun _ => 0, ρ⟩ fun r => ∀ c : Dev nD,
      r.2.mem ((c.tc : Thread nD τ).loc main_v6) = turned (it (first m c) 50).outs
      ∧ r.2.mem ((c.tc : Thread nD τ).loc main_v5_5) = (it (first m c) 50).hid
      ∧ r.2.mem ((c.tc : Thread nD τ).loc main_v5_6) = (it (first m c) 50).cell
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (congrArg turned (outs_it m c 50)), (h c).2.1.trans (hidden_it m c 50), (h c).2.2.1.trans (cell_it m c 50), (h c).2.2.2⟩) (Value.run m ρ)

end Cert.Reference2Ideal.Hand

end
-- ==== Proof.AsmFrame.lean ====
/-
  The assembling call's frame, at the machine's words: at every point the body stores eight rows of the block it leaves,
  whose contents nobody names, and the seven inputs are left as found.
-/
module

public import proofs.«01_k».proof.Proof.Gen.Kernel3.Frame
public import proofs.«01_k».proof.Proof.Gen.Kernel3.Skeleton
public import Idealize.ShloMosaic.Lib.Pipeline.Frame
public import Idealize.ShloMosaic.Lib.Tactic

@[expose] public section

set_option maxRecDepth 16384

noncomputable section

namespace Cert.Kernel3.Hand

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The seven inputs held at given contents. -/
abbrev ins (c : Dev nD) (M : Fin 7 → Memref sig .tc .vmem S32x4096 .f32) (x : Fin 7 → FVec F S32x4096 .f32) : sProp 𝕄 :=
  iprop(owns (c : Thread nD τ) (M 0) fullShare (x 0) ∗ owns (c : Thread nD τ) (M 1) fullShare (x 1) ∗ owns (c : Thread nD τ) (M 2) fullShare (x 2) ∗ owns (c : Thread nD τ) (M 3) fullShare (x 3) ∗ owns (c : Thread nD τ) (M 4) fullShare (x 4) ∗ owns (c : Thread nD τ) (M 5) fullShare (x 5) ∗ owns (c : Thread nD τ) (M 6) fullShare (x 6))

/-- The body's triple: from the inputs at given contents and the output's block at anything, the kernel runs to its
    return, the inputs as they were and the block at something. -/
theorem kernelRun (c : Dev nD) (i : grid0.Coords) (M : Fin 7 → Memref sig .tc .vmem S32x4096 .f32) (hM : ∀ k, (M k).IsWhole)
    (a : Memref sig .tc .vmem S32x8x4096 .f32) (ha : a.IsWhole) (x : Fin 7 → FVec F S32x4096 .f32) (K : PUnit → sProp 𝕄) :
    iprop(ins c M x ∗ (∃ d, owns (Val := Elt F) (c : Thread nD τ) a fullShare d)
        ∗ (iprop(ins c M x ∗ (∃ d, owns (Val := Elt F) (c : Thread nD τ) a fullShare d)) -∗ K ⟨⟩))
      ⊢ wp frame (wpE (defs₀ (F := F)) Variants.none c none) Set.univ
          (cc0__assemble_kernel i (M 0) (hM 0) (M 1) (hM 1) (M 2) (hM 2) (M 3) (hM 3) (M 4) (hM 4) (M 5) (hM 5) (M 6) (hM 6) a ha) K := by
  simp only [cc0__assemble_kernel_eq_skeleton]; unfold cc0__assemble_kernel_skel
  simp only [k0_part1_eq_skeleton]; unfold k0_part1_skel
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d, %f, -, H⟩, Hk⟩
  sl_exec
  sl_step
  iapply Hk
  isplitl [H0 H1 H2 H3 H4 H5 H6]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists f6; isplitr; · ipureintro; exact e6
    iexact H6
  iexists _, _; isplitr; swap; · iexact H
  ipureintro; rfl

/-! ## The proof data and the launch -/

/-- The proof data on core `c`: the arrays as the region finds them, nothing said of what the body leaves, nothing owed. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The inputs' staging buffers at a point. -/
abbrev stg (t : Fin cfg0.N) : Fin 7 → Memref sig .tc .vmem S32x4096 .f32 :=
  ![st0_0 t, st0_1 t, st0_2 t, st0_3 t, st0_4 t, st0_5 t, st0_6 t]

theorem stg_whole (t : Fin cfg0.N) : ∀ k, (stg t k).IsWhole := fun
  | 0 => hstage0_0 ((cfg0.slots t 0).cast nbuf0_0)
  | 1 => hstage0_1 ((cfg0.slots t 1).cast nbuf0_1)
  | 2 => hstage0_2 ((cfg0.slots t 2).cast nbuf0_2)
  | 3 => hstage0_3 ((cfg0.slots t 3).cast nbuf0_3)
  | 4 => hstage0_4 ((cfg0.slots t 4).cast nbuf0_4)
  | 5 => hstage0_5 ((cfg0.slots t 5).cast nbuf0_5)
  | 6 => hstage0_6 ((cfg0.slots t 6).cast nbuf0_6)

/-- The body obligation of the data above. -/
theorem body_obligation (c : Dev nD) : (rdat (F := F) m c).BodyObligation (defs₀ (F := F)) Variants.none () Set.univ := fun t Y _ => by
  rw [bigSep_W0, bigSep_W0, defs₀_row]
  rw [show (rdat m c).Φ t.succ = (rdat m c).Φ t.castSucc from rfl,
    show (rdat m c).owesAt () t.succ = (rdat m c).owesAt () t.castSucc from rfl]
  iintro ⟨HΦ, HO, H0, H1, H2, H3, H4, H5, H6, H7⟩
  iapply (kernelRun c (grid0.coords t) (stg t) (stg_whole t) (st0_7 t) (hstage0_7 ((cfg0.slots t 7).cast nbuf0_7)) ![Y 0, Y 1, Y 2, Y 3, Y 4, Y 5, Y 6] _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨⟨H0, H1, H2, H3, H4, H5, H6⟩, ⟨%d, H7⟩⟩
  isplitl [HΦ]; · iexact HΦ
  isplitl [HO]; · iexact HO
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists d; isplitr; · ipureintro; trivial
  iexact H7

set_option backward.isDefEq.respectTransparency.types false in
/-- Every fair run of @main ends, the inputs' arrays as the region found them, every counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)

/-- The call's frame: it ends, its seven arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl⟩, h.2⟩) (run_main m ρ)

end Cert.Kernel3.Hand

end
-- ==== Proof.AsmBody.lean ====
/-
  The assembling call's body over the extended reals: the block it leaves holds zeros in its first row and each input in
  its own.
-/
module

public import proofs.«01_k».proof.Proof.Gen.Kernel3Ideal.Frame
public import proofs.«01_k».proof.Proof.Gen.Kernel3Ideal.Skeleton
public import Idealize.ShloMosaic.Lib.Pipeline.Frame
public import Idealize.ShloMosaic.Lib.Pipeline.ValueKit
public import Idealize.ShloMosaic.Lib.Pointwise
public import Idealize.ShloMosaic.Lib.WritesUnit
public import Idealize.ShloMosaic.Lib.Tactic

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

instance : ∀ e, Nonempty (Elt Ideal e) := inferInstance

/-- Rows of zeros and of the seven inputs, in that order: entry `k` is row `k`'s at lane `j` of batch row `r`. -/
def rows {ι : Type} (x : Fin 7 → ι → EReal) (k : Fin 8) (i : ι) : EReal :=
  Fin.cases (motive := fun _ => EReal) 0 (fun k => x k i) k

/-- The block a point leaves. -/
def block (x : Fin 7 → FVec Ideal S32x4096 .f32) : FVec Ideal S32x8x4096 .f32 :=
  fun j => rows x (j 1) (ix2 (j 0) (j 2))

/-- A row as it is stored, read at a lane. -/
theorem stored (v : FVec Ideal S32x4096 .f32) (r : Fin 32) (w : Fin 4096) :
    shapeCast S32x1x4096 v shapeCasts_S32x4096_S32x1x4096 (ix3 r 0 w) = v (ix2 r w) := by
  pointwise

/-- Row `k` of the output's block, as a store's target. -/
abbrev rowAt (k : ℕ) (h : ∀ a : Fin 3, ![0, k, 0] a + S32x1x4096.size a ≤ S32x8x4096.size a) (v : FVec Ideal S32x4096 .f32) :
    View.Piece (Elt Ideal) S32x8x4096 .f32 :=
  ⟨Rect.unit (s := S32x8x4096) ![0, k, 0] S32x1x4096.size h, shapeCast S32x1x4096 v shapeCasts_S32x4096_S32x1x4096⟩

section
variable {κ : Kind} {sp : Space} (v : View sig κ sp S32x8x4096 .f32) (f : v.ty.Contents (Elt Ideal))

/-- The row stored last reads as stored. -/
theorem read_row (k : ℕ) (hk : k < 8) (h) (x : FVec Ideal S32x4096 .f32) (L) (r : Fin 32) (w : Fin 4096) :
    v.read (Elt Ideal) (v.writes (Elt Ideal) f (rowAt k h x :: L)) (ix3 r ⟨k, hk⟩ w) = x (ix2 r w) := by
  refine (View.read_writes_cons_unit_of_mem v f h _ L (ix3 r ⟨k, hk⟩ w) (ix3 r 0 w) rfl fun a => ?_).trans (stored x r w)
  match a with
  | ⟨0, _⟩ => exact (Nat.zero_add _).symm
  | ⟨1, _⟩ => rfl
  | ⟨2, _⟩ => exact (Nat.zero_add _).symm

/-- Another row reads as before. -/
theorem read_other (k : ℕ) (h) (x : FVec Ideal S32x4096 .f32) (L) (r : Fin 32) (k' : Fin 8) (w : Fin 4096) (hk : k'.val < k) :
    v.read (Elt Ideal) (v.writes (Elt Ideal) f (rowAt k h x :: L)) (ix3 r k' w) = v.read (Elt Ideal) (v.writes (Elt Ideal) f L) (ix3 r k' w) :=
  View.read_writes_cons_unit_of_not_mem v f h _ L (ix3 r k' w) rfl 1 (.inl hk)

theorem inb (n : ℕ) (h : n + 1 ≤ 8) : ∀ a : Fin 3, ![0, n, 0] a + S32x1x4096.size a ≤ S32x8x4096.size a := by
  intro a
  match a with
  | ⟨0, _⟩ => exact le_refl 32
  | ⟨1, _⟩ => exact h
  | ⟨2, _⟩ => exact le_refl 4096

/-- The rows up to one, the latest first. -/
def pieces (x : Fin 8 → FVec Ideal S32x4096 .f32) : (n : ℕ) → n ≤ 8 → List (View.Piece (Elt Ideal) S32x8x4096 .f32)
  | 0, _ => []
  | n + 1, h => rowAt n (inb n h) (x ⟨n, h⟩) :: pieces x n (by omega)

theorem read_pieces (x : Fin 8 → FVec Ideal S32x4096 .f32) (n : ℕ) (hn : n ≤ 8) (r : Fin 32) (k : Fin 8) (w : Fin 4096) (hk : k.val < n) :
    v.read (Elt Ideal) (v.writes (Elt Ideal) f (pieces x n hn)) (ix3 r k w) = x k (ix2 r w) := by
  induction n with
  | zero => omega
  | succ n ih =>
    unfold pieces
    by_cases e : k.val = n
    · obtain ⟨k, hk'⟩ := k
      subst e
      exact read_row v f k hk' _ _ _ r w
    · exact (read_other v f n _ _ _ r k w (by omega)).trans (ih (by omega) (by omega))

/-- The eight rows make the block. -/
theorem read_block (x : Fin 7 → FVec Ideal S32x4096 .f32) :
    v.read (Elt Ideal) (v.writes (Elt Ideal) f (pieces (fun k i => rows x k i) 8 le_rfl)) = block x := by
  funext j
  obtain ⟨r, k, w, rfl⟩ : ∃ (r : Fin 32) (k : Fin 8) (w : Fin 4096), j = ix3 r k w := ⟨j 0, j 1, j 2, eq_ix3 j⟩
  exact read_pieces v f _ 8 le_rfl r k w k.isLt

end

/-- Equal rows are stored alike. -/
theorem rowAt_congr (k : ℕ) (h) {x y : FVec Ideal S32x4096 .f32} (e : x = y) : rowAt k h x = rowAt k h y := by rw [e]

/-- A whole input, loaded. -/
theorem load_whole (M : Memref sig .tc .vmem S32x4096 .f32) (f : M.view.ty.Contents (Elt Ideal)) {x : FVec Ideal S32x4096 .f32}
    (e : M.view.read (Elt Ideal) f = x) :
    View.readAt (Elt Ideal) M.view (Rect.unit (s := S32x4096) ![0, 0] S32x4096.size inb_S32x4096_S32x4096_0_0).toLoadRect f = x := by
  rw [View.readAt_eq_ld, e]
  exact View.ld_unit_zero (Val := Elt Ideal) (S := S32x4096) (e := .f32) (off := ![0, 0]) (funext fun a => by fin_cases a <;> rfl) inb_S32x4096_S32x4096_0_0 x

/-- The zeros. -/
theorem zeros : (broadcast S32x4096 (Scalar.ofBits (F := Ideal) .f32 0x00000000#32) : FVec Ideal S32x4096 .f32) = fun _ => (0 : EReal) :=
  funext fun _ => Ideal.ofBits_zero_f32

/-- The seven inputs held at given contents. -/
abbrev ins (c : Dev nD) (M : Fin 7 → Memref sig .tc .vmem S32x4096 .f32) (x : Fin 7 → FVec Ideal S32x4096 .f32) : sProp 𝕄 :=
  iprop(owns (Val := Elt Ideal) (c : Thread nD τ) (M 0) fullShare (x 0) ∗ owns (Val := Elt Ideal) (c : Thread nD τ) (M 1) fullShare (x 1) ∗ owns (Val := Elt Ideal) (c : Thread nD τ) (M 2) fullShare (x 2) ∗ owns (Val := Elt Ideal) (c : Thread nD τ) (M 3) fullShare (x 3) ∗ owns (Val := Elt Ideal) (c : Thread nD τ) (M 4) fullShare (x 4) ∗ owns (Val := Elt Ideal) (c : Thread nD τ) (M 5) fullShare (x 5) ∗ owns (Val := Elt Ideal) (c : Thread nD τ) (M 6) fullShare (x 6))

/-- The body's triple: from the inputs at given contents and the output's block at anything, the kernel runs to its
    return, the inputs as they were and the block made of their rows. -/
theorem kernelRun (c : Dev nD) (i : grid0.Coords) (M : Fin 7 → Memref sig .tc .vmem S32x4096 .f32) (hM : ∀ k, (M k).IsWhole)
    (a : Memref sig .tc .vmem S32x8x4096 .f32) (ha : a.IsWhole) (x : Fin 7 → FVec Ideal S32x4096 .f32) (K : PUnit → sProp 𝕄) :
    iprop(ins c M x ∗ (∃ d, owns (Val := Elt Ideal) (c : Thread nD τ) a fullShare d)
        ∗ (iprop(ins c M x ∗ owns (Val := Elt Ideal) (c : Thread nD τ) a fullShare (block x)) -∗ K ⟨⟩))
      ⊢ wp frame (wpE (defs₀ (F := Ideal)) Variants.none c none) Set.univ
          (cc0__assemble_kernel i (M 0) (hM 0) (M 1) (hM 1) (M 2) (hM 2) (M 3) (hM 3) (M 4) (hM 4) (M 5) (hM 5) (M 6) (hM 6) a ha) K := by
  simp only [cc0__assemble_kernel_eq_skeleton]; unfold cc0__assemble_kernel_skel
  simp only [k0_part1_eq_skeleton]; unfold k0_part1_skel
  unfold ins owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d, %f, -, H⟩, Hk⟩
  sl_exec
  sl_step
  iapply Hk
  isplitl [H0 H1 H2 H3 H4 H5 H6]
  · isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists f6; isplitr; · ipureintro; exact e6
    iexact H6
  iexists _; isplitr; swap; · iexact H
  ipureintro
  exact Eq.trans (congrArg (fun L => a.view.read (Elt Ideal) (a.view.writes (Elt Ideal) f L))
    (congrArg₂ List.cons (rowAt_congr 7 (inb 7 (by decide)) (load_whole (M 6) f6 e6)) (congrArg₂ List.cons (rowAt_congr 6 (inb 6 (by decide)) (load_whole (M 5) f5 e5)) (congrArg₂ List.cons (rowAt_congr 5 (inb 5 (by decide)) (load_whole (M 4) f4 e4)) (congrArg₂ List.cons (rowAt_congr 4 (inb 4 (by decide)) (load_whole (M 3) f3 e3)) (congrArg₂ List.cons (rowAt_congr 3 (inb 3 (by decide)) (load_whole (M 2) f2 e2)) (congrArg₂ List.cons (rowAt_congr 2 (inb 2 (by decide)) (load_whole (M 1) f1 e1)) (congrArg₂ List.cons (rowAt_congr 1 (inb 1 (by decide)) (load_whole (M 0) f0 e0)) (congrArg₂ List.cons (rowAt_congr 0 (inb 0 (by decide)) zeros) rfl))))))))) (read_block a.view f x)

end Cert.Kernel3Ideal.Hand

end
-- ==== Proof.AsmRun.lean ====
/-
  The assembling call's run over the extended reals: the array it leaves holds zeros at the first position and each input
  at its own.
-/
module

public import proofs.«01_k».proof.Proof.AsmBody

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The seven arguments. -/
def args (c : Dev nD) : Fin 7 → FVec Ideal S32x100000 .f32 :=
  ![V m c main_arg0, V m c main_arg1, V m c main_arg2, V m c main_arg3, V m c main_arg4, V m c main_arg5, V m c main_arg6]

/-- The array the call leaves. -/
def out (c : Dev nD) : FVec Ideal S32x8x100000 .f32 := fun j => rows (args m c) (j 1) (ix2 (j 0) (j 2))

theorem idx0 : ∀ t : Fin grid0.N, win0_0.index t = ![0, t.val] := by decide +kernel
theorem idx7 : ∀ t : Fin grid0.N, win0_7.index t = ![0, 0, t.val] := by decide +kernel

/-- Which lanes of a block the windows move: those inside the array. -/
theorem xs0 : ∀ t : Fin grid0.N, win0_0.xsize (grid0.coords t) 0 = 32 ∧ win0_0.xsize (grid0.coords t) 1 = min 4096 (100000 - t.val * 4096) := by decide +kernel
theorem xs7 : ∀ t : Fin grid0.N, win0_7.xsize (grid0.coords t) 0 = 32 ∧ win0_7.xsize (grid0.coords t) 1 = 8
    ∧ win0_7.xsize (grid0.coords t) 2 = min 4096 (100000 - t.val * 4096) := by decide +kernel

theorem moved0 (t : Fin grid0.N) (r : Fin 32) (j : Fin 4096) (h : t.val * 4096 + j.val < 100000) : win0_0.moved (grid0.coords t) (ix2 r j) = true := by
  rw [Pipeline.Window.moved_iff]
  intro a
  match a with
  | ⟨0, _⟩ => exact lt_of_lt_of_eq r.isLt (xs0 t).1.symm
  | ⟨1, _⟩ => refine lt_of_lt_of_eq ?_ (xs0 t).2.symm; show j.val < _; omega

/-- A fetched block at a lane inside its array: the inputs' windows all lie alike, so window 0's stands for each. -/
theorem fetched (t : Fin grid0.N) (A : FVec Ideal S32x100000 .f32) (d : FVec Ideal S32x4096 .f32) (r : Fin 32) (j : Fin 4096) (h : t.val * 4096 + j.val < 100000) :
    win0_0.fill (grid0.coords t) d ((win0_0.blk t).view.read (Elt Ideal) A) (ix2 r j) = A (ix2 r ⟨t.val * 4096 + j.val, h⟩) := by
  unfold Pipeline.Window.fill
  rw [dif_pos (moved0 t r j h)]
  refine congrArg A ?_
  blk_ext [idx0 t]

/-- The seven staging buffers at a point, past the arrays' end at `d`. -/
def found (c : Dev nD) (t : Fin cfg0.N) (d : Fin 7 → FVec Ideal S32x4096 .f32) : Fin 7 → FVec Ideal S32x4096 .f32 :=
  ![win0_0.fill (grid0.coords t) (d 0) (iblk m c 0 t), win0_1.fill (grid0.coords t) (d 1) (iblk m c 1 t), win0_2.fill (grid0.coords t) (d 2) (iblk m c 2 t),
    win0_3.fill (grid0.coords t) (d 3) (iblk m c 3 t), win0_4.fill (grid0.coords t) (d 4) (iblk m c 4 t), win0_5.fill (grid0.coords t) (d 5) (iblk m c 5 t),
    win0_6.fill (grid0.coords t) (d 6) (iblk m c 6 t)]

theorem found_apply (c : Dev nD) (t : Fin cfg0.N) (d) (r : Fin 32) (j : Fin 4096) (h : t.val * 4096 + j.val < 100000) :
    ∀ k, found m c t d k (ix2 r j) = args m c k (ix2 r ⟨t.val * 4096 + j.val, h⟩)
  | 0 => fetched t (V m c main_arg0) (d 0) r j h
  | 1 => fetched t (V m c main_arg1) (d 1) r j h
  | 2 => fetched t (V m c main_arg2) (d 2) r j h
  | 3 => fetched t (V m c main_arg3) (d 3) r j h
  | 4 => fetched t (V m c main_arg4) (d 4) r j h
  | 5 => fetched t (V m c main_arg5) (d 5) r j h
  | 6 => fetched t (V m c main_arg6) (d 6) r j h

/-- Rows agree where the inputs do. -/
theorem rows_congr {ι κ : Type} {x : Fin 7 → ι → EReal} {y : Fin 7 → κ → EReal} {i : ι} {i' : κ} (h : ∀ k, x k i = y k i') (k : Fin 8) :
    rows x k i = rows y k i' := by
  refine Fin.cases rfl (fun k => ?_) k
  exact h k

/-- The block a point writes back, past the array's end at zero. -/
def left (c : Dev nD) (t : Fin cfg0.N) : FVec Ideal S32x8x4096 .f32 := fun j =>
  if h : t.val * 4096 + (j 2).val < 100000 then out m c (ix3 (j 0) (j 1) ⟨t.val * 4096 + (j 2).val, h⟩) else (0 : EReal)

/-- Where an index of the written part lies. -/
theorem place (t : Fin grid0.N) (y : (win0_7.xblock (grid0.coords t)).Idx) : ∃ (r : Fin 32) (k : Fin 8) (j : Fin 4096) (h : t.val * 4096 + j.val < 100000),
    win0_7.xinj (grid0.coords t) y = ix3 r k j ∧ (win0_7.blk t).view.emb y = ix3 r k ⟨t.val * 4096 + j.val, h⟩ := by
  have hr : (y 0).val < 32 := lt_of_lt_of_eq (y 0).isLt (xs7 t).1
  have hk : (y 1).val < 8 := lt_of_lt_of_eq (y 1).isLt (xs7 t).2.1
  have hj : (y 2).val < min 4096 (100000 - t.val * 4096) := lt_of_lt_of_eq (y 2).isLt (xs7 t).2.2
  refine ⟨⟨(y 0).val, hr⟩, ⟨(y 1).val, hk⟩, ⟨(y 2).val, by omega⟩, by show t.val * 4096 + (y 2).val < 100000; omega, ?_, ?_⟩
  · funext a
    match a with
    | ⟨0, _⟩ => rfl
    | ⟨1, _⟩ => rfl
    | ⟨2, _⟩ => rfl
  · blk_ext [idx7 t]

theorem left_in (c : Dev nD) (t : Fin cfg0.N) (r : Fin 32) (k : Fin 8) (j : Fin 4096) (h : t.val * 4096 + j.val < 100000) :
    left m c t (ix3 r k j) = out m c (ix3 r k ⟨t.val * 4096 + j.val, h⟩) := dif_pos h

/-- What the body leaves, on the lanes inside the array, whatever the buffers hold past the end. -/
theorem cut_left (c : Dev nD) (t : Fin cfg0.N) (d) :
    win0_7.cut (grid0.coords t) (block (found m c t d)) = win0_7.cut (grid0.coords t) (left m c t) := by
  funext y
  obtain ⟨r, k, j, h, e, -⟩ := place t y
  show block (found m c t d) (win0_7.xinj (grid0.coords t) y) = left m c t (win0_7.xinj (grid0.coords t) y)
  rw [e, left_in m c t r k j h]
  exact rows_congr (fun k => found_apply m c t d r j h k) k

/-! ## The proof data -/

/-- The proof data on core `c`. -/
def dats (_ : Fin 1) (c : Dev nD) : Dat τ (Elt Ideal) Unit ℕ (UR sig nD τ) ℕ cfg0 c where
  A w := V m c (Pipeline.arrRef spec0 w)
  after w t := match w with
    | ⟨7, _⟩ => left m c t
    | w => (cfg0.win w).fill (grid0.coords t) (fun _ => Classical.arbitrary _) (iblk m c w t)
  Φ _ := Pipeline.ΦA spec0 c
  q _ := fullShare
  owed _ := 0

theorem before_in (c : Dev nD) (t : Fin cfg0.N) (w : Fin cfg0.W) (h : (cfg0.win w).fetch t = true) (d) :
    (dats m 0 c).before w t d = (cfg0.win w).fill (grid0.coords t) d (iblk m c w t) := by
  unfold Dat.before; rw [if_pos h]; rfl

theorem defs₀_row (t : Fin cfg0.N) : defs₀ (F := Ideal) .tc cfg0.body (cfg0.bodyArgs t (cfg0.slots t)) = bodyAt0 t := by
  unfold defs₀; rw [Defs.onTc_tc]

/-- An input's buffer, unchanged, is what the data say of it. -/
theorem leave_in (c : Dev nD) (t : Fin cfg0.N) (w : Fin cfg0.W) (d0 d)
    (h : (dats m 0 c).after w t = (cfg0.win w).fill (grid0.coords t) d0 (iblk m c w t)) :
    (owns (c : Thread nD τ) ((cfg0.win w).stage (cfg0.slots t w)) fullShare ((cfg0.win w).fill (grid0.coords t) d (iblk m c w t)) : sProp 𝕄)
      ⊢ iprop(∃ d, owns (c : Thread nD τ) ((cfg0.win w).stage (cfg0.slots t w)) fullShare
      ((cfg0.win w).fill (cfg0.grid.coords t) d ((cfg0.win w).cut (cfg0.grid.coords t) ((dats m 0 c).after w t)))) := by
  rw [h]
  iintro H; iexists d
  change _ ⊢ owns (c : Thread nD τ) _ fullShare ((cfg0.win w).fill (grid0.coords t) d ((cfg0.win w).cut (grid0.coords t) ((cfg0.win w).fill (grid0.coords t) d0 (iblk m c w t))))
  rw [(cfg0.win w).cut_fill]; try iexact H

theorem leave_7 (c : Dev nD) (t : Fin cfg0.N) (X : FVec Ideal S32x8x4096 .f32)
    (h : win0_7.cut (grid0.coords t) X = win0_7.cut (grid0.coords t) (left m c t)) :
    (owns (c : Thread nD τ) (st0_7 t) fullShare X : sProp 𝕄) ⊢ iprop(∃ d, owns (c : Thread nD τ) ((cfg0.win 7).stage (cfg0.slots t 7)) fullShare
      ((cfg0.win 7).fill (cfg0.grid.coords t) d ((cfg0.win 7).cut (cfg0.grid.coords t) ((dats m 0 c).after 7 t)))) := by
  have ea : (dats m 0 c).after 7 t = left m c t := rfl
  rw [ea]
  have e : (cfg0.win 7).fill (cfg0.grid.coords t) X ((cfg0.win 7).cut (cfg0.grid.coords t) (left m c t)) = X :=
    (cfg0.win 7).fill_congr_cut (cfg0.grid.coords t) h
  iintro H; iexists X
  rw [e]; try iexact H

/-- The inputs' staging buffers at a point. -/
abbrev stg (t : Fin cfg0.N) : Fin 7 → Memref sig .tc .vmem S32x4096 .f32 :=
  ![st0_0 t, st0_1 t, st0_2 t, st0_3 t, st0_4 t, st0_5 t, st0_6 t]

theorem stg_whole (t : Fin cfg0.N) : ∀ k, (stg t k).IsWhole := fun
  | 0 => hstage0_0 ((cfg0.slots t 0).cast nbuf0_0)
  | 1 => hstage0_1 ((cfg0.slots t 1).cast nbuf0_1)
  | 2 => hstage0_2 ((cfg0.slots t 2).cast nbuf0_2)
  | 3 => hstage0_3 ((cfg0.slots t 3).cast nbuf0_3)
  | 4 => hstage0_4 ((cfg0.slots t 4).cast nbuf0_4)
  | 5 => hstage0_5 ((cfg0.slots t 5).cast nbuf0_5)
  | 6 => hstage0_6 ((cfg0.slots t 6).cast nbuf0_6)

theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [before_in m c t 0 (fetch0_0 t) d0, before_in m c t 1 (fetch0_1 t) d1, before_in m c t 2 (fetch0_2 t) d2, before_in m c t 3 (fetch0_3 t) d3, before_in m c t 4 (fetch0_4 t) d4, before_in m c t 5 (fetch0_5 t) d5, before_in m c t 6 (fetch0_6 t) d6]
  iapply (kernelRun c (grid0.coords t) (stg t) (stg_whole t) (st0_7 t) (hstage0_7 ((cfg0.slots t 7).cast nbuf0_7)) (found m c t ![d0, d1, d2, d3, d4, d5, d6]) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  have hX := cut_left m c t ![d0, d1, d2, d3, d4, d5, d6]
  generalize block (found m c t ![d0, d1, d2, d3, d4, d5, d6]) = X at hX ⊢
  iintro ⟨⟨H0, H1, H2, H3, H4, H5, H6⟩, H7⟩
  isplitl [HΦ]; · iexact HΦ
  isplitl [HO]; · iexact HO
  isplitl [H0]; · iapply (leave_in m c t 0 _ d0 rfl); iexact H0
  isplitl [H1]; · iapply (leave_in m c t 1 _ d1 rfl); iexact H1
  isplitl [H2]; · iapply (leave_in m c t 2 _ d2 rfl); iexact H2
  isplitl [H3]; · iapply (leave_in m c t 3 _ d3 rfl); iexact H3
  isplitl [H4]; · iapply (leave_in m c t 4 _ d4 rfl); iexact H4
  isplitl [H5]; · iapply (leave_in m c t 5 _ d5 rfl); iexact H5
  isplitl [H6]; · iapply (leave_in m c t 6 _ d6 rfl); iexact H6
  iapply (leave_7 m c t X hX); iexact H7

set_option backward.isDefEq.respectTransparency.types false in
/-- Every fair run of @main ends, every array as the data above compute it, every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl)
    (hin := fun _ => Entails.refl _) (hout := fun _ => Entails.refl _)

theorem arr_7 (c : Dev nD) : (dats m 0 c).arrAt 7 (cfgs 0).N = out m c :=
  (dats m 0 c).arrAt_eq_of_covers 7 _ (by decide +kernel) fun t _ y => by
    obtain ⟨r, k, j, h, e, e'⟩ := place t y
    show left m c t (win0_7.xinj (grid0.coords t) y) = out m c ((win0_7.blk t).view.emb y)
    rw [e, e', left_in m c t r k j h]

/-- The call's run: the array, the arguments as launched, every counter at zero. -/
theorem run :
    θ_run defs (onTc (τ := τ) (main (F := Ideal))) ⟨m, fun _ => 0, ρ⟩ (fun r => (∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 7).trans (arr_7 m c), ((h.1 c).1 0).trans ((dats m 0 c).arrAt_in 0 rfl _),
    ((h.1 c).1 1).trans ((dats m 0 c).arrAt_in 1 rfl _),
    ((h.1 c).1 2).trans ((dats m 0 c).arrAt_in 2 rfl _),
    ((h.1 c).1 3).trans ((dats m 0 c).arrAt_in 3 rfl _),
    ((h.1 c).1 4).trans ((dats m 0 c).arrAt_in 4 rfl _),
    ((h.1 c).1 5).trans ((dats m 0 c).arrAt_in 5 rfl _),
    ((h.1 c).1 6).trans ((dats m 0 c).arrAt_in 6 rfl _)⟩, h.2⟩) (run_main m ρ)

end Cert.Kernel3Ideal.Hand

end
-- ==== Proof.AsmRef.lean ====
/-
  The assembling reference's result, read at an entry: each update puts one array at one position of the output.
-/
module

public import proofs.«01_k».proof.Proof.AsmRun
public import proofs.«01_k».proof.Proof.Gen.Reference3Ideal.Read
public import Idealize.ShloMosaic.Lib.Routing.OpsSet

@[expose] public section

noncomputable section

namespace Cert.Reference3Ideal.Hand

open Cert.Reference3Ideal Cert.Reference3Ideal.Gen Cert.Reference3Ideal.Read
open Idealize.ShloMosaic Idealize.ShloMosaic.TcCoe Idealize.ShloMosaic.Tactic Idealize.ShloMosaic.Routing

/-- An update at one position of the middle axis. -/
abbrev put : ScatterDims S32x8x100000 S1 S32x100000 := scatter_S32x8x100000_S1_S32x100000_01_1_1_0

theorem window_0 (y : S32x100000.Idx) : put.window y 0 = (y 0).val := rfl
theorem window_1 (y : S32x100000.Idx) : put.window y 1 = 0 := rfl
theorem window_2 (y : S32x100000.Idx) : put.window y 2 = (y 1).val := rfl
theorem start_0 (y : S32x100000.Idx) (p : IVec S1 32) : put.start y p 0 = 0 := rfl
theorem start_2 (y : S32x100000.Idx) (p : IVec S1 32) : put.start y p 2 = 0 := rfl

/-- On the position's axis an entry lands where the index word says. -/
theorem start_1 (y : S32x100000.Idx) (p : IVec S1 32) : put.start y p 1 = (p (ix1 0)).toInt := by
  have hm : (1 : Fin 3) ∈ put.scatterDimsToOperandDims := List.mem_singleton.2 rfl
  unfold ScatterDims.start
  rw [dif_pos hm]
  refine congrArg (fun q => (p q).toInt) (funext fun a => ?_)
  match a with
  | ⟨0, _⟩ => exact Subsingleton.elim (α := Fin 1) _ _

/-- Where an update's entry lands. -/
theorem lands (p : IVec S1 32) (k : Fin 8) (hp : (p (ix1 0)).toInt = (k.val : Int)) (y : S32x100000.Idx) (r : Fin 32) (e : Fin 8) (v : Fin 100000) :
    put.resultIdx? y p = some (ix3 r e v) ↔ y = ix2 r v ∧ k = e := by
  rw [resultIdx?_eq_some]
  constructor
  · intro h
    have h0 := h 0
    have h1 := h 1
    have h2 := h 2
    rw [start_0, window_0] at h0
    rw [start_1, window_1, hp] at h1
    rw [start_2, window_2] at h2
    change _ = (r.val : Int) at h0
    change _ = (e.val : Int) at h1
    change _ = (v.val : Int) at h2
    refine ⟨funext fun a => Fin.ext ?_, Fin.ext (by omega)⟩
    match a with
    | ⟨0, _⟩ => show (y 0).val = r.val; omega
    | ⟨1, _⟩ => show (y 1).val = v.val; omega
  · rintro ⟨rfl, rfl⟩ a
    match a with
    | ⟨0, _⟩ => exact (congrArg₂ (fun (a : Int) (b : ℕ) => a + (b : Int)) (start_0 _ p) (window_0 _)).trans (Int.zero_add _)
    | ⟨1, _⟩ => exact (congrArg₂ (fun (a : Int) (b : ℕ) => a + (b : Int)) ((start_1 _ p).trans hp) (window_1 _)).trans (Int.add_zero _)
    | ⟨2, _⟩ => exact (congrArg₂ (fun (a : Int) (b : ℕ) => a + (b : Int)) (start_2 _ p) (window_2 _)).trans (Int.zero_add _)

/-- One update, read at an entry. -/
theorem set_apply (x0 : FVec Ideal S32x8x100000 .f32) (p : IVec S1 32) (x : FVec Ideal S32x100000 .f32) (k : Fin 8)
    (hp : (p (ix1 0)).toInt = (k.val : Int)) (r : Fin 32) (e : Fin 8) (v : Fin 100000) :
    Host.scatter put (fun _ b => b) x0 p x (ix3 r e v) = if k = e then x (ix2 r v) else x0 (ix3 r e v) := by
  split
  · next h => exact scatter_set_hit _ x0 p x _ _ (fun y hy => congrArg x ((lands p k hp y r e v).1 hy).1) (ix2 r v) ((lands p k hp _ r e v).2 ⟨rfl, h⟩)
  · next h => exact scatter_set_miss _ x0 p x _ fun y hy => h ((lands p k hp y r e v).1 hy).2

/-- The reference's array: the arguments at positions one to seven over zeros, as the call assembles them. -/
theorem val_main_v14_rows (x : Fin 7 → FVec Ideal S32x100000 .f32) :
    val_main_v14 (F := Ideal) (x 0) (x 1) (x 2) (x 3) (x 4) (x 5) (x 6) = fun j => Cert.Kernel3Ideal.Hand.rows x (j 1) (ix2 (j 0) (j 2)) := by
  funext j
  obtain ⟨r, e, v, rfl⟩ : ∃ (r : Fin 32) (e : Fin 8) (v : Fin 100000), j = ix3 r e v := ⟨j 0, j 1, j 2, eq_ix3 j⟩
  show _ = Cert.Kernel3Ideal.Hand.rows x e (ix2 r v)
  unfold val_main_v14 val_main_v12 val_main_v10 val_main_v8 val_main_v6 val_main_v4 val_main_v2
  rw [set_apply _ _ _ 7 (by rw [val_main_v13_apply]; rfl), set_apply _ _ _ 6 (by rw [val_main_v11_apply]; rfl),
    set_apply _ _ _ 5 (by rw [val_main_v9_apply]; rfl), set_apply _ _ _ 4 (by rw [val_main_v7_apply]; rfl),
    set_apply _ _ _ 3 (by rw [val_main_v5_apply]; rfl), set_apply _ _ _ 2 (by rw [val_main_v3_apply]; rfl),
    set_apply _ _ _ 1 (by rw [val_main_v1_apply]; rfl), val_main_v0_apply, val_main_cst_apply]
  fin_cases e
  · exact Ideal.ofBits_zero_f32
  all_goals rfl

end Cert.Reference3Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_logits
public import proofs.«01_k».proof.Proof.ProjFrame
public import proofs.«01_k».proof.Proof.ProjEq
public import proofs.«01_k».proof.Proof.ProjRefRun
public import Idealize.ShloMosaic.Adequacy
public import proofs.«01_k».proof.Proof.EncStates
public import proofs.«01_k».proof.Proof.EncRun
public import proofs.«01_k».proof.Proof.EncRef
public import proofs.«01_k».proof.Proof.AsmFrame
public import proofs.«01_k».proof.Proof.AsmRun
public import proofs.«01_k».proof.Proof.AsmRef
public import Idealize.ShloMosaic.Init
public import Idealize.ShloMosaic.Lib.Quiescent

@[expose] public section

noncomputable section

namespace Cert.Proof

open Idealize.ShloMosaic Idealize.SL.Sem Cert.Kernel

instance : ∀ e, Nonempty (Elt Bits e) := inferInstance

theorem frame_p : Cert.quiescent_Kernel := fun m g _ => Cert.Kernel.Hand.frame m g

/-- The idealized step's run, its results left out. -/
theorem frame_i (m : (ℓ : Loc Cert.KernelIdeal.nD Cert.KernelIdeal.τ Cert.KernelIdeal.sig) → Buf (Elt Ideal) ℓ) (g) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  (θ_run Cert.KernelIdeal.defs _ _).mono (fun _ h => ⟨fun c => (h.1 c).2.2.2.2.2.2, h.2⟩) (Cert.KernelIdeal.Hand.run m g)

/-- The reference's run, its results left out; it declares no semaphore. -/
theorem frame_r (m : (ℓ : Loc Cert.ReferenceIdeal.nD Cert.ReferenceIdeal.τ Cert.ReferenceIdeal.sig) → Buf (Elt Ideal) ℓ) (g) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0) :=
  (θ_run Cert.ReferenceIdeal.defs _ _).mono (fun r h => ⟨fun c => (h c).2.2.2.2.2.2, sem_eq_zero_of_no_sems (by decide) r.2⟩) (Cert.ReferenceIdeal.Hand.run m g)

/-- The step and its reference, from memories agreeing on the arguments. -/
theorem algebraic : Cert.algebraic_KernelIdeal_ReferenceIdeal_pre_finite_logits := by
  intro m g m' g' hpre hargs
  have hpos : ∀ c r v, ⊥ < Cert.KernelIdeal.Hand.lg m c r v := fun c r v => by
    have h := Cert.ReferenceIdeal.Hand.pre _ _ _ _ _ _ _ _ _ _ _ (hpre c) r v
    rw [← Cert.KernelIdeal.Hand.V_hidden m c] at h
    exact h
  refine ⟨fun c => Cert.KernelIdeal.Hand.logits m c, fun c => (Cert.KernelIdeal.Hand.carry m c 25).1, fun c => (Cert.KernelIdeal.Hand.carry m c 25).2,
    fun c => Cert.KernelIdeal.Gen.V m c Cert.KernelIdeal.main_v49, fun c => Cert.KernelIdeal.Gen.V m c Cert.KernelIdeal.main_v47,
    fun c => Cert.ReferenceIdeal.Hand.nextOf (Cert.KernelIdeal.Hand.tenVals (Cert.KernelIdeal.Hand.carry m c 25).1) (m ((c.tc : Thread Cert.KernelIdeal.nD Cert.KernelIdeal.τ).loc Cert.KernelIdeal.main_arg10))
      (Cert.KernelIdeal.Hand.tenInds (Cert.KernelIdeal.Hand.carry m c 25).2),
    (θ_run Cert.KernelIdeal.defs _ _).mono (fun _ h => h.1) (Cert.KernelIdeal.Hand.run m g),
    (θ_run Cert.ReferenceIdeal.defs _ _).mono (fun r h c => ?_) (Cert.ReferenceIdeal.Hand.run m' g')⟩
  obtain ⟨h0, h1, h2, h3, h4, h5, ha⟩ := h c
  obtain ⟨e0, e1, e2, e3, e4, e5, e6, e7, e8, e9, e10⟩ := hargs c
  have eh : Cert.ReferenceIdeal.Hand.rhidden m' c = Cert.KernelIdeal.Gen.V m c Cert.KernelIdeal.main_v49 := by
    rw [Cert.ReferenceIdeal.Hand.rhidden, e0, e1, e2, e3, e4, e5, e6, e7]
    exact (Cert.KernelIdeal.Hand.V_hidden m c).symm
  have ec : Cert.ReferenceIdeal.Hand.rcell m' c = Cert.KernelIdeal.Gen.V m c Cert.KernelIdeal.main_v47 := by
    rw [Cert.ReferenceIdeal.Hand.rcell, e0, e1, e2, e3, e4, e5, e6, e7]
    exact (Cert.KernelIdeal.Hand.V_cell m c).symm
  have el : Cert.ReferenceIdeal.Hand.rlog m' c = Cert.ReferenceIdeal.Hand.rlogits (Cert.KernelIdeal.Hand.Hd m c) (Cert.KernelIdeal.Hand.Wt m c) (Cert.KernelIdeal.Hand.Bs m c) := by
    rw [Cert.ReferenceIdeal.Hand.rlog, eh, e8, e9]
    rfl
  rw [el] at h0 h1 h2 h5
  rw [e10] at h5
  exact ⟨h0.trans (Cert.KernelIdeal.Hand.logits_eq m c).symm, h1.trans (Cert.KernelIdeal.Hand.vals_eq m c (hpos c)).symm,
    h2.trans (Cert.KernelIdeal.Hand.inds_eq m c (hpos c)).symm, h3.trans eh, h4.trans ec, h5.trans (Cert.KernelIdeal.Hand.next_eq m c (hpos c) _).symm, ha⟩

theorem enc_frame_r : Cert.quiescent_Reference2Ideal := fun m g _ =>
  (θ_run Cert.Reference2Ideal.defs _ _).mono (fun r h => ⟨fun c => (h c).2.2.2, sem_eq_zero_of_no_sems (by decide) r.2⟩) (Cert.Reference2Ideal.Hand.run m g)

/-- The encoder and its reference, from memories agreeing on the arguments. -/
theorem enc_algebraic : Cert.algebraic_Kernel2Ideal_Reference2Ideal := by
  intro m g m' g' _ hargs
  refine ⟨_, _, _, Cert.Kernel2Ideal.Hand.run m g, (θ_run Cert.Reference2Ideal.defs _ _).mono (fun r h c => ?_) (Cert.Reference2Ideal.Hand.run m' g')⟩
  obtain ⟨h0, h1, h2, ha⟩ := h c
  have e : Cert.Reference2Ideal.Hand.first m' c = Cert.Kernel2Ideal.Hand.s0 m c := by
    obtain ⟨e0, e1, e2, e3, e4⟩ := hargs c
    unfold Cert.Kernel2Ideal.Hand.s0
    rw [Cert.Reference2Ideal.Hand.first, e0, e1, e2, e3, e4]
  rw [e] at h0 h1 h2
  exact ⟨h0, h1, h2, ha⟩

/-- The assembling call's run, its result left out. -/
theorem asm_frame_i : Cert.quiescent_Kernel3Ideal := fun m g _ =>
  (θ_run Cert.Kernel3Ideal.defs _ _).mono (fun r h => ⟨fun c => (h.1 c).2, h.2⟩) (Cert.Kernel3Ideal.Hand.run m g)

theorem asm_frame_r : Cert.quiescent_Reference3Ideal := fun m g _ =>
  (θ_run Cert.Reference3Ideal.defs _ _).mono (fun r h => ⟨fun c => (h c).2, sem_eq_zero_of_no_sems (by decide) r.2⟩) (Cert.Reference3Ideal.Value.run m g)

/-- The assembling call and its reference, from memories agreeing on the arguments. -/
theorem asm_algebraic : Cert.algebraic_Kernel3Ideal_Reference3Ideal := by
  intro m g m' g' _ hargs
  refine ⟨fun c => Cert.Kernel3Ideal.Hand.out m c, (θ_run Cert.Kernel3Ideal.defs _ _).mono (fun _ h => h.1) (Cert.Kernel3Ideal.Hand.run m g),
    (θ_run Cert.Reference3Ideal.defs _ _).mono (fun r h c => ?_) (Cert.Reference3Ideal.Value.run m' g')⟩
  obtain ⟨h0, ha⟩ := h c
  obtain ⟨e0, e1, e2, e3, e4, e5, e6⟩ := hargs c
  rw [e0, e1, e2, e3, e4, e5, e6, Cert.Reference3Ideal.Read.val_main_v14_eq] at h0
  exact ⟨h0.trans (Cert.Reference3Ideal.Hand.val_main_v14_rows (Cert.Kernel3Ideal.Hand.args m c)), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_logits.Gen.facts,
  frame_p, fun m g _ => frame_i m g, fun m g _ => frame_i m g, fun m g _ => frame_r m g, fun m g _ => frame_r m g,
  fun m g _ => Cert.Kernel2.Gen.frame m g, fun m g _ => Cert.Kernel2Ideal.Gen.frame m g, enc_frame_r,
  fun m g _ => Cert.Kernel3.Hand.frame m g, asm_frame_i, asm_frame_r,
  IdealRules.named_const.statement Cert.KernelIdeal.κ "mask" .f32 0xF149F2CA#32 ⊥ rfl, algebraic, trivial, enc_algebraic, trivial, asm_algebraic⟩

end Cert.Proof

end
